-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_read_scales_nonzero [hPre_read_scales_nonzero : Cert.Pre_read_scales_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_read_scales_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_read_scales_nonzero [hPre_read_scales_nonzero : Cert.Pre_read_scales_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_read_scales_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_read_scales_nonzero [hKernelIdeal : Cert.KernelIdeal.Facts] [hPre_read_scales_nonzero : Cert.Pre_read_scales_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_read_scales_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_read_scales_nonzero [hReferenceIdeal : Cert.ReferenceIdeal.Facts] [hPre_read_scales_nonzero : Cert.Pre_read_scales_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_read_scales_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_read_scales_nonzero [hKernelIdeal : Cert.KernelIdeal.Facts] [hReferenceIdeal : Cert.ReferenceIdeal.Facts] [hPre_read_scales_nonzero : Cert.Pre_read_scales_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_read_scales_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_read_scales_nonzero : Cert.Pre_read_scales_nonzero.Facts),
    quiescent_Kernel (hKernel := hKernel)
    ∧ quiescent_KernelIdeal (hKernelIdeal := hKernelIdeal)
    ∧ quiescent_KernelIdeal_pre_read_scales_nonzero (hKernelIdeal := hKernelIdeal) (hPre_read_scales_nonzero := hPre_read_scales_nonzero)
    ∧ quiescent_ReferenceIdeal (hReferenceIdeal := hReferenceIdeal)
    ∧ quiescent_ReferenceIdeal_pre_read_scales_nonzero (hReferenceIdeal := hReferenceIdeal) (hPre_read_scales_nonzero := hPre_read_scales_nonzero)
    ∧ preserves_Kernel_KernelIdeal
    ∧ algebraic_KernelIdeal_ReferenceIdeal_pre_read_scales_nonzero (hKernelIdeal := hKernelIdeal) (hReferenceIdeal := hReferenceIdeal) (hPre_read_scales_nonzero := hPre_read_scales_nonzero)
-- ==== Pre_read_scales_nonzero.lean ====
abbrev S32x64x4096 : Shape := ⟨3, ![32, 64, 4096]⟩
abbrev S64 : Shape := ⟨1, ![64]⟩
abbrev S2 : Shape := ⟨1, ![2]⟩
abbrev S_ : Shape := ⟨0, ![]⟩

class Facts : Prop where
  slices_S64_S2_0 : S64.Slices ![0] S2
  bcast_S_S2 : S_.BroadcastsInDim S2 (![] : Fin 0 → Fin S2.rank)

variable [Facts]

def fn {F : FTy → Type} [FloatOps F] (main_arg0 : FVec F S32x64x4096 .f32) (main_arg1 : FVec F S64 .f32) : IVec S2 1 :=
  let main_v0 : FVec F S2 .f32 := (extractStridedSlice S2 ![0] · slices_S64_S2_0) main_arg1
  let main_cst : FVec F S_ .f32 := constant S_ .f32 0x00000000#32
  let main_v1 : FVec F S2 .f32 := broadcastInDim S2 ![] bcast_S_S2 main_cst
  let main_v2 : IVec S2 1 := cmpf .une main_v0 main_v1
  main_v2
-- ==== Kernel.lean ====
abbrev S32x64x4096 : Shape := ⟨3, ![32, 64, 4096]⟩
abbrev S64 : Shape := ⟨1, ![64]⟩
abbrev S1x2x2048 : Shape := ⟨3, ![1, 2, 2048]⟩
abbrev S2x2048 : Shape := ⟨2, ![2, 2048]⟩
abbrev S4x2048 : Shape := ⟨2, ![4, 2048]⟩
abbrev S1x64 : Shape := ⟨2, ![1, 64]⟩
abbrev S32x64x2048 : Shape := ⟨3, ![32, 64, 2048]⟩
abbrev S80x2048 : Shape := ⟨2, ![80, 2048]⟩
abbrev S4x4x64x2048 : Shape := ⟨4, ![4, 4, 64, 2048]⟩
abbrev S4 : Shape := ⟨1, ![4]⟩
abbrev S1x1 : Shape := ⟨2, ![1, 1]⟩
abbrev S1x2048 : Shape := ⟨2, ![1, 2048]⟩
abbrev S1x2 : Shape := ⟨2, ![1, 2]⟩
abbrev S1x2046 : Shape := ⟨2, ![1, 2046]⟩
abbrev S1x2047 : Shape := ⟨2, ![1, 2047]⟩
abbrev S1x4096 : Shape := ⟨2, ![1, 4096]⟩
abbrev S64x2048 : Shape := ⟨2, ![64, 2048]⟩
abbrev S1x1x64x2048 : Shape := ⟨4, ![1, 1, 64, 2048]⟩
abbrev S1 : Shape := ⟨1, ![1]⟩
abbrev S_ : Shape := ⟨0, ![]⟩
abbrev S4x64x2048 : Shape := ⟨3, ![4, 64, 2048]⟩
abbrev S1x4x64x2048 : Shape := ⟨4, ![1, 4, 64, 2048]⟩

abbrev nBuf : Space → Nat
  | .hbm => 9
  | .vmem => 4
  | .smem => 0
  | _ => 0

abbrev bufTy : (tb : Table) → Fin (tcTables nBuf tb) → BufTy
  | .hbm, ⟨0, _⟩ => ⟨S32x64x4096, .f32⟩
  | .hbm, ⟨1, _⟩ => ⟨S64, .f32⟩
  | .hbm, ⟨2, _⟩ => ⟨S1x2x2048, .f32⟩
  | .hbm, ⟨3, _⟩ => ⟨S2x2048, .f32⟩
  | .hbm, ⟨4, _⟩ => ⟨S1x2x2048, .f32⟩
  | .hbm, ⟨5, _⟩ => ⟨S2x2048, .f32⟩
  | .hbm, ⟨6, _⟩ => ⟨S4x2048, .f32⟩
  | .hbm, ⟨7, _⟩ => ⟨S1x64, .f32⟩
  | .hbm, ⟨8, _⟩ => ⟨S32x64x2048, .f32⟩
  | .local _ .vmem, ⟨0, _⟩ => ⟨S4x2048, .f32⟩
  | .local _ .vmem, ⟨1, _⟩ => ⟨S1x64, .f32⟩
  | .local _ .vmem, ⟨2, _⟩ => ⟨S80x2048, .f32⟩
  | .local _ .vmem, ⟨3, _⟩ => ⟨S4x4x64x2048, .f32⟩
  | _, _ => ⟨S32x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 3 → Nat :=
  let arg0 : BitVec 32 := BitVec.ofNat 32 (i 0).val
  let c16_i32 : BitVec 32 := 16#32
  let v258 : BitVec 32 := Scalar.muli arg0 c16_i32
  let v259 : BitVec 32 := Scalar.addi v258 c0_i32
  let c0_i32_47 : BitVec 32 := 0#32
  let c0_i32_48 : BitVec 32 := 0#32
  ![v259.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S32x64x4096 : Shape := ⟨3, ![32, 64, 4096]⟩
abbrev S64 : Shape := ⟨1, ![64]⟩
abbrev S_ : Shape := ⟨0, ![]⟩
abbrev S6 : Shape := ⟨1, ![6]⟩
abbrev S1 : Shape := ⟨1, ![1]⟩
abbrev S7 : Shape := ⟨1, ![7]⟩
abbrev S64x1 : Shape := ⟨2, ![64, 1]⟩
abbrev S1x7 : Shape := ⟨2, ![1, 7]⟩
abbrev S64x7 : Shape := ⟨2, ![64, 7]⟩
abbrev S32x64x4102 : Shape := ⟨3, ![32, 64, 4102]⟩
abbrev S1x64x1 : Shape := ⟨3, ![1, 64, 1]⟩
abbrev S8388608 : Shape := ⟨1, ![8388608]⟩
abbrev S32 : Shape := ⟨1, ![32]⟩
abbrev S32x1x1 : Shape := ⟨3, ![32, 1, 1]⟩
abbrev S32x64x1 : Shape := ⟨3, ![32, 64, 1]⟩
abbrev S2048 : Shape := ⟨1, ![2048]⟩
abbrev S1x1x2048 : Shape := ⟨3, ![1, 1, 2048]⟩
abbrev S32x64x2048 : Shape := ⟨3, ![32, 64, 2048]⟩
abbrev S32x64x2048x1 : Shape := ⟨4, ![32, 64, 2048, 1]⟩

abbrev nBuf : Space → Nat
  | .hbm => 111
  | .vmem => 0
  | .smem => 0
  | _ => 0

abbrev bufTy : (tb : Table) → Fin (tcTables nBuf tb) → BufTy
  | .hbm, ⟨0, _⟩ => ⟨S32x64x4096, .f32⟩
  | .hbm, ⟨1, _⟩ => ⟨S64, .f32⟩
  | .hbm, ⟨2, _⟩ => ⟨S_, .i32⟩
  | .hbm, ⟨3, _⟩ => ⟨S_, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S6, .f32⟩
  | .hbm, ⟨10, _⟩ => ⟨S_, .f32⟩
  | .hbm, ⟨11, _⟩ => ⟨S6, .f32⟩
  | .hbm, ⟨12, _⟩ => ⟨S6, .f32⟩
  | .hbm, ⟨13, _⟩ => ⟨S1, .f32⟩
  | .hbm, ⟨14, _⟩ => ⟨S_, .f32⟩
  | .hbm, ⟨15, _⟩ => ⟨S6, .f32⟩
  | .hbm, ⟨16, _⟩ => ⟨S6, .f32⟩
  | .hbm, ⟨17, _⟩ => ⟨S6, .f32⟩
  | .hbm, ⟨18, _⟩ => ⟨S6, .f32⟩
  | .hbm, ⟨19, _⟩ => ⟨S1, .f32⟩
  | .hbm, ⟨20, _⟩ => ⟨S6, .f32⟩
  | .hbm, ⟨21, _⟩ => ⟨S6, .f32⟩
  | .hbm, ⟨22, _⟩ => ⟨S6, .f32⟩
  | .hbm, ⟨23, _⟩ => ⟨S1, .f32⟩
  | .hbm, ⟨24, _⟩ => ⟨S7, .f32⟩
  | .hbm, ⟨25, _⟩ => ⟨S7, .f32⟩
  | .hbm, ⟨26, _⟩ => ⟨S7, .f32⟩
  | .hbm, ⟨27, _⟩ => ⟨S64x1, .f32⟩
  | .hbm, ⟨28, _⟩ => ⟨S_, .f32⟩
  | .hbm, ⟨29, _⟩ => ⟨S64x1, .f32⟩
  | .hbm, ⟨30, _⟩ => ⟨S64x1, .f32⟩
  | .hbm, ⟨31, _⟩ => ⟨S1x7, .f32⟩
  | .hbm, ⟨32, _⟩ => ⟨S64x7, .f32⟩
  | .hbm, ⟨33, _⟩ => ⟨S64x7, .f32⟩
  | .hbm, ⟨34, _⟩ => ⟨S64x7, .f32⟩
  | .hbm, ⟨35, _⟩ => ⟨S_, .f32⟩
  | .hbm, ⟨36, _⟩ => ⟨S_, .f32⟩
  | .hbm, ⟨37, _⟩ => ⟨S32x64x4102, .f32⟩
  | .hbm, ⟨38, _⟩ => ⟨S32x64x4096, .f32⟩
  | .hbm, ⟨39, _⟩ => ⟨S64x1, .f32⟩
  | .hbm, ⟨40, _⟩ => ⟨S64, .f32⟩
  | .hbm, ⟨41, _⟩ => ⟨S1x64x1, .f32⟩
  | .hbm, ⟨42, _⟩ => ⟨S32x64x4096, .f32⟩
  | .hbm, ⟨43, _⟩ => ⟨S32x64x4096, .f32⟩
  | .hbm, ⟨44, _⟩ => ⟨S32x64x4096, .f32⟩
  | .hbm, ⟨45, _⟩ => ⟨S64x1, .f32⟩
  | .hbm, ⟨46, _⟩ => ⟨S64, .f32⟩
  | .hbm, ⟨47, _⟩ => ⟨S1x64x1, .f32⟩
  | .hbm, ⟨48, _⟩ => ⟨S32x64x4096, .f32⟩
  | .hbm, ⟨49, _⟩ => ⟨S32x64x4096, .f32⟩
  | .hbm, ⟨50, _⟩ => ⟨S32x64x4096, .f32⟩
  | .hbm, ⟨51, _⟩ => ⟨S32x64x4096, .f32⟩
  | .hbm, ⟨52, _⟩ => ⟨S64x1, .f32⟩
  | .hbm, ⟨53, _⟩ => ⟨S64, .f32⟩
  | .hbm, ⟨54, _⟩ => ⟨S1x64x1, .f32⟩
  | .hbm, ⟨55, _⟩ => ⟨S32x64x4096, .f32⟩
  | .hbm, ⟨56, _⟩ => ⟨S32x64x4096, .f32⟩
  | .hbm, ⟨57, _⟩ => ⟨S32x64x4096, .f32⟩
  | .hbm, ⟨58, _⟩ => ⟨S32x64x4096, .f32⟩
  | .hbm, ⟨59, _⟩ => ⟨S64x1, .f32⟩
  | .hbm, ⟨60, _⟩ => ⟨S64, .f32⟩
  | .hbm, ⟨61, _⟩ => ⟨S1x64x1, .f32⟩
  | .hbm, ⟨62, _⟩ => ⟨S32x64x4096, .f32⟩
  | .hbm, ⟨63, _⟩ => ⟨S32x64x4096, .f32⟩
  | .hbm, ⟨64, _⟩ => ⟨S32x64x4096, .f32⟩
  | .hbm, ⟨65, _⟩ => ⟨S32x64x4096, .f32⟩
  | .hbm, ⟨66, _⟩ => ⟨S64x1, .f32⟩
  | .hbm, ⟨67, _⟩ => ⟨S64, .f32⟩
  | .hbm, ⟨68, _⟩ => ⟨S1x64x1, .f32⟩
  | .hbm, ⟨69, _⟩ => ⟨S32x64x4096, .f32⟩
  | .hbm, ⟨70, _⟩ => ⟨S32x64x4096, .f32⟩
  | .hbm, ⟨71, _⟩ => ⟨S32x64x4096, .f32⟩
  | .hbm, ⟨72, _⟩ => ⟨S32x64x4096, .f32⟩
  | .hbm, ⟨73, _⟩ => ⟨S64x1, .f32⟩
  | .hbm, ⟨74, _⟩ => ⟨S64, .f32⟩
  | .hbm, ⟨75, _⟩ => ⟨S1x64x1, .f32⟩
  | .hbm, ⟨76, _⟩ => ⟨S32x64x4096, .f32⟩
  | .hbm, ⟨77, _⟩ => ⟨S32x64x4096, .f32⟩
  | .hbm, ⟨78, _⟩ => ⟨S32x64x4096, .f32⟩
  | .hbm, ⟨79, _⟩ => ⟨S32x64x4096, .f32⟩
  | .hbm, ⟨80, _⟩ => ⟨S64x1, .f32⟩
  | .hbm, ⟨81, _⟩ => ⟨S64, .f32⟩
  | .hbm, ⟨82, _⟩ => ⟨S1x64x1, .f32⟩
  | .hbm, ⟨83, _⟩ => ⟨S32x64x4096, .f32⟩
  | .hbm, ⟨84, _⟩ => ⟨S32x64x4096, .f32⟩
  | .hbm, ⟨85, _⟩ => ⟨S32x64x4096, .f32⟩
  | .hbm, ⟨86, _⟩ => ⟨S8388608, .f32⟩
  | .hbm, ⟨87, _⟩ => ⟨S32, .i32⟩
  | .hbm, ⟨88, _⟩ => ⟨S32x1x1, .i32⟩
  | .hbm, ⟨89, _⟩ => ⟨S64, .i32⟩
  | .hbm, ⟨90, _⟩ => ⟨S1x64x1, .i32⟩
  | .hbm, ⟨91, _⟩ => ⟨S32x64x1, .i32⟩
  | .hbm, ⟨92, _⟩ => ⟨S32x64x1, .i32⟩
  | .hbm, ⟨93, _⟩ => ⟨S32x64x1, .i32⟩
  | .hbm, ⟨94, _⟩ => ⟨S2048, .i32⟩
  | .hbm, ⟨95, _⟩ => ⟨S1x1x2048, .i32⟩
  | .hbm, ⟨96, _⟩ => ⟨S_, .i32⟩
  | .hbm, ⟨97, _⟩ => ⟨S1x1x2048, .i32⟩
  | .hbm, ⟨98, _⟩ => ⟨S1x1x2048, .i32⟩
  | .hbm, ⟨99, _⟩ => ⟨S32x64x2048, .i32⟩
  | .hbm, ⟨100, _⟩ => ⟨S32x64x2048, .i32⟩
  | .hbm, ⟨101, _⟩ => ⟨S32x64x2048, .i32⟩
  | .hbm, ⟨102, _⟩ => ⟨S_, .i32⟩
  | .hbm, ⟨103, _⟩ => ⟨S32x64x2048, .i32⟩
  | .hbm, ⟨104, _⟩ => ⟨S32x64x2048, .i1⟩
  | .hbm, ⟨105, _⟩ => ⟨S_, .i32⟩
  | .hbm, ⟨106, _⟩ => ⟨S32x64x2048, .i32⟩
  | .hbm, ⟨107, _⟩ => ⟨S32x64x2048, .i32⟩
  | .hbm, ⟨108, _⟩ => ⟨S32x64x2048, .i32⟩
  | .hbm, ⟨109, _⟩ => ⟨S32x64x2048x1, .i32⟩
  | .hbm, ⟨110, _⟩ => ⟨S32x64x2048, .f32⟩
  | _, _ => ⟨S32x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_1 : Ref sig .tc := ⟨.hbm, 35, rfl⟩
abbrev main_call1_v0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_2 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_3 : Ref sig .tc := ⟨.hbm, 102, rfl⟩
abbrev main_v74 : Ref sig .tc := ⟨.hbm, 103, rfl⟩
abbrev main_v75 : Ref sig .tc := ⟨.hbm, 104, rfl⟩
abbrev main_c_4 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩

abbrev nD : Nat := 1
abbrev τ : Topo := Topo.v7x

variable {F : FTy → Type} [FloatOps F]
-- ==== Proof.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev outM : Memref sig .tc .hbm S32x64x2048 .f32 := Memref.whole main_v6
abbrev mM : Memref sig .tc .vmem S80x2048 .f32 := Memref.whole cc0_scratch0
abbrev stM : Memref sig .tc .vmem S4x4x64x2048 .f32 := Memref.whole cc0_scratch1
abbrev BufOf (c : Dev nD) {sp : Space} {S : Shape} {e : EltTy} (M : Memref sig .tc sp S e) : Type := Buf (Elt F) (M.view.loc (c : Thread nD τ))
abbrev ptOf (c : Dev nD) {sp : Space} {S : Shape} {e : EltTy} (M : Memref sig .tc sp S e) (f : BufOf (F := F) c M) : sProp 𝕄 :=
  M.view.loc (c : Thread nD τ) ↦{fullShare} f

abbrev blkOf (c : Dev nD) {sp : Space} {S : Shape} {e : EltTy} (M : Memref sig .tc sp S e) (f : BufOf (F := F) c M) : sProp 𝕄 :=
  M.view.loc (c : Thread nD τ) ↦[M.view.set]{fullShare} f

set_option sl_exec.dmaWindow true in
/-- One grid point's body, run from the two input blocks at named contents `f1`, `f2`, the two scratch buffers at
`fs0`, `fs1` and the result array at `g`: the contents it leaves in the result array, with the proof that the run from
those contents ends there, every counter of the four transfers back at zero. -/
noncomputable def kernelRun0 (c : Dev nD) (i : grid0.Coords) (arg1 : Memref sig .tc .vmem S4x2048 .f32) (harg1 : arg1.IsWhole)
    (arg2 : Memref sig .tc .vmem S1x64 .f32) (harg2 : arg2.IsWhole)
    (f1 : BufOf (F := F) c arg1) (f2 : BufOf (F := F) c arg2) (fs0 : BufOf (F := F) c mM) (fs1 : BufOf (F := F) c stM)
    (g : BufOf (F := F) c outM) :
    { G : BufOf (F := F) c outM //
      ∀ (W : Waits sig Unit) (K : PUnit → sProp 𝕄),
        iprop(blkOf c arg1 f1 ∗ blkOf c arg2 f2
            ∗ ptOf c mM fs0 ∗ ptOf c stM fs1
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ ptOf c outM g
            ∗ owes (c : Thread nD τ) 0 W
            ∗ (iprop(blkOf c arg1 f1 ∗ blkOf c arg2 f2
                ∗ (∃ f, ptOf c mM f) ∗ (∃ f, ptOf c stM f)
                ∗ semVal ((c : Thread nD τ), SemLoc.dma 2) 0 ∗ semVal ((c : Thread nD τ), SemLoc.dma 3) 0
                ∗ semVal ((c : Thread nD τ), SemLoc.dma 4) 0 ∗ semVal ((c : Thread nD τ), SemLoc.dma 5) 0
                ∗ ptOf c outM G
                ∗ (∃ W', owes (c : Thread nD τ) 0 W')) -∗ K ⟨⟩))
          ⊢ wp frame (wpE (defs₀ (F := F)) Variants.none c none) Set.univ
              (cc0__kern i arg1 harg1 arg2 harg2 outM (Memref.isWhole_whole _) mM (Memref.isWhole_whole _) stM (Memref.isWhole_whole _) cc0_scratch2) K } := by
  refine ⟨?G, fun W K => ?run⟩
  case run =>
    simp only [cc0__kern_eq_skeleton]; unfold cc0__kern_skel
    iintro ⟨H1, H2, HS0, HS1, Hq0, Hq1, Hq2, Hq3, Ho, HW, Hk⟩
    sl_exec
    sl_step
    iapply Hk
    isplitl [H1]
    · iexact H1
    isplitl [H2]
    · iexact H2
    isplitl [HS0]
    · iexists _; iexact HS0
    isplitl [HS1]
    · iexists _; iexact HS1
    isplitl [Hq0]
    · iexact Hq0
    isplitl [Hq1]
    · iexact Hq1
    isplitl [Hq2]
    · iexact Hq2
    isplitl [Hq3]
    · iexact Hq3
    isplitl [Ho]
    · iexact Ho
    iexists _; iexact HW

end Cert.KernelIdeal.Hand
end
-- ==== Proof.Block.lean ====
/- What one grid point of the kernel computes, as plain functions of its two input blocks, at any reading `F` of the
   floats: the two dilated rows, even and odd places, rotated by the point's share; the two interleaved again; and what
   the point leaves in the result array. -/
module

public import proofs.«01_k».proof.Proof.Gen.KernelIdeal.Skeleton
public import Idealize.ShloMosaic.Lib.Pointwise.Index
public import Idealize.ShloMosaic.Lib.Pipeline.Value

@[expose] public section

noncomputable section

namespace Cert.KernelIdeal.Hand

open Cert.KernelIdeal Cert.KernelIdeal.Gen
open Idealize.ShloMosaic

variable {F : FTy → Type} [FloatOps F]

/-- The even places of channel 0's row, the first row of the block. -/
def even0 (x : Vec F S4x2048 .f32) : Vec F S1x2048 .f32 :=
  View.ld x (Rect.unit (s := S4x2048) ![0, 0] S1x2048.size inb_S4x2048_S1x2048_0_0)

/-- The even places of channel 1's row. -/
def even1 (x : Vec F S4x2048 .f32) : Vec F S1x2048 .f32 :=
  View.ld x (Rect.unit (s := S4x2048) ![1, 0] S1x2048.size inb_S4x2048_S1x2048_1_0)

/-- The odd places of channel 0's row. -/
def odd0 (x : Vec F S4x2048 .f32) : Vec F S1x2048 .f32 :=
  View.ld x (Rect.unit (s := S4x2048) ![2, 0] S1x2048.size inb_S4x2048_S1x2048_2_0)

/-- The odd places of channel 1's row. -/
def odd1 (x : Vec F S4x2048 .f32) : Vec F S1x2048 .f32 :=
  View.ld x (Rect.unit (s := S4x2048) ![3, 0] S1x2048.size inb_S4x2048_S1x2048_3_0)

/-- Channel 0's scale. -/
def scale0 (t : Vec F S1x64 .f32) : Vec F S1x1 .f32 :=
  View.ld t (Rect.unit (s := S1x64) ![0, 0] S1x1.size inb_S1x64_S1x1_0_0)

/-- Channel 1's scale. -/
def scale1 (t : Vec F S1x64 .f32) : F .f32 :=
  k0_pay1 (View.ld t (Rect.unit (s := S1x64) ![0, 1] S1x1.size inb_S1x64_S1x1_0_1))

/-- The even places of the two dilated rows, one after the other, rotated to start at the grid point's first place. -/
def evens (i : grid0.Coords) (x : Vec F S4x2048 .f32) (t : Vec F S1x64 .f32) : FVec F S1x4096 .f32 :=
  k0_pay22 (BitVec.ofNat 32 (i 0).val) (k0_pay9 (scale0 t) (even0 x) (odd0 x)) (k0_pay12 (even1 x)) (k0_pay13 (odd1 x))
    (k0_pay15 (scale1 t)) (k0_pay16 (scale1 t)) (k0_pay17 (scale1 t)) k0_pay18
    (k0_pay19 (scale1 t) (even1 x) (odd1 x)) k0_pay20

/-- The odd places of the two dilated rows, one after the other, not rotated yet. -/
def oddsFlat (x : Vec F S4x2048 .f32) (t : Vec F S1x64 .f32) : FVec F S1x4096 .f32 :=
  k0_pay21 (k0_pay11 (k0_pay2 (even0 x)) (k0_pay3 (odd0 x)) (k0_pay5 (scale0 t)) (k0_pay6 (scale0 t)) (k0_pay7 (scale0 t))
      k0_pay8 k0_pay10)
    (k0_pay12 (even1 x)) (k0_pay13 (odd1 x)) (k0_pay15 (scale1 t)) (k0_pay16 (scale1 t)) (k0_pay17 (scale1 t)) k0_pay18

/-- The odd places, rotated like the even ones. -/
def odds (i : grid0.Coords) (x : Vec F S4x2048 .f32) (t : Vec F S1x64 .f32) : FVec F S1x4096 .f32 :=
  k0_pay23 (BitVec.ofNat 32 (i 0).val) (oddsFlat x t)

/-- Place `n` of the two rows interleaved. -/
def place (i : grid0.Coords) (x : Vec F S4x2048 .f32) (t : Vec F S1x64 .f32) (n : ℕ) : F .f32 :=
  if n % 2 = 0 then evens i x t (ix2 0 ⟨n / 2 % 4096, Nat.mod_lt _ (by decide)⟩)
  else odds i x t (ix2 0 ⟨n / 2 % 4096, Nat.mod_lt _ (by decide)⟩)

/-- The result array after grid point `i`: its own sixteen outer rows hold the places, entry `(b, c, x)` place
`(b - 16 i) + c + 2 x`; every other row is as before. -/
def stepOut (i : grid0.Coords) (x : Vec F S4x2048 .f32) (t : Vec F S1x64 .f32) (g : Vec F S32x64x2048 .f32) : Vec F S32x64x2048 .f32 :=
  fun idx => if 16 * (i 0).val ≤ (idx 0).val ∧ (idx 0).val < 16 * (i 0).val + 16 then
    place i x t ((idx 0).val - 16 * (i 0).val + (idx 1).val + 2 * (idx 2).val) else g idx

end Cert.KernelIdeal.Hand
end
-- ==== Proof.Contents.lean ====
/- What the run of one grid point leaves in the result array: `stepOut`. The table of eighty shifted rows, the staging
   buffer filled from it, and the four transfers out of the staging buffer are read at one entry each. -/
module

public import proofs.«01_k».proof.Proof.Run
public import proofs.«01_k».proof.Proof.Block
public import Idealize.ShloMosaic.Lib.Writes
public import Idealize.ShloMosaic.Lib.VecWindow
public import Idealize.ShloMosaic.Lib.Pointwise.Reshape

@[expose] public section

noncomputable section

namespace Cert.KernelIdeal.Hand

open Cert.KernelIdeal Cert.KernelIdeal.Gen
open Idealize.ShloMosaic Idealize.ShloMosaic.TcCoe

variable {F : FTy → Type} [FloatOps F]

section

variable (c : Dev nD) (i : grid0.Coords) (arg1 : Memref sig .tc .vmem S4x2048 .f32) (arg2 : Memref sig .tc .vmem S1x64 .f32)
  (f1 : BufOf (F := F) c arg1) (f2 : BufOf (F := F) c arg2)

/-- The run's even row is the block's. -/
theorem run_evens : kernelRun0.sl.r_15 c i arg1 arg2 f1 f2
    = evens i (arg1.view.read (Elt F) f1) (arg2.view.read (Elt F) f2) := rfl

/-- The run's odd row is the block's. -/
theorem run_odds : kernelRun0.sl.v157 c i arg1 arg2 f1 f2
    = odds i (arg1.view.read (Elt F) f1) (arg2.view.read (Elt F) f2) := rfl

/-- The window of 2048 places from place `q` of a row of 4096. -/
def rowFrom (E : FVec F S1x4096 .f32) (q : Fin 40) : FVec F S1x2048 .f32 :=
  extractStridedSlice S1x2048 ![0, q.val] E ⟨rfl, fun a => by have := q.isLt; fin_cases a <;> simp <;> omega⟩

omit [FloatOps F] in
/-- Eighty rows one under the other, read at row `k`: piece `k` of the list. -/
theorem rows_apply (L : List ((s : Shape) × (s.Idx → F .f32))) (hL : L.map (·.1) = List.replicate 80 S1x2048)
    (h : Shape.Concatenates (L.map (·.1)) S80x2048 0) (k : ℕ) (hk : k < 80) (hk' : k < L.length) (w : FVec F S1x2048 .f32)
    (hw : L[k] = ⟨S1x2048, w⟩) (x : Fin 2048) : concatenate S80x2048 0 L h (ix2 ⟨k, hk⟩ x) = w (ix2 0 x) := by
  refine concatenate_apply_piece (t := S80x2048) 0 L h _ k hk' S1x2048 w hw rfl k ?_ (ix2 0 x) ?_ rfl
  · rw [List.map_take, hL, List.take_replicate, List.map_replicate, List.sum_replicate]
    simp
    omega
  · intro b hb
    fin_cases b
    · exact absurd rfl hb
    · rfl

/-- An even row `2 q` of the table is the window of the even row from place `q`. -/
theorem table_even (q : Fin 40) (x : Fin 2048) :
    kernelRun0.sl.v238 c i arg1 arg2 f1 f2 (ix2 ⟨2 * q.val, by omega⟩ x) = rowFrom (kernelRun0.sl.r_15 c i arg1 arg2 f1 f2) q (ix2 0 x) :=
  rows_apply _ rfl _ (2 * q.val) _ (by simp; omega) _ (by fin_cases q <;> rfl) x

/-- An odd row `2 q + 1` of the table is the window of the odd row from place `q`. -/
theorem table_odd (q : Fin 40) (x : Fin 2048) :
    kernelRun0.sl.v238 c i arg1 arg2 f1 f2 (ix2 ⟨2 * q.val + 1, by omega⟩ x) = rowFrom (kernelRun0.sl.v157 c i arg1 arg2 f1 f2) q (ix2 0 x) :=
  rows_apply _ rfl _ (2 * q.val + 1) _ (by simp; omega) _ (by fin_cases q <;> rfl) x

omit [FloatOps F] in
/-- A window read at an entry. -/
theorem rowFrom_apply (E : FVec F S1x4096 .f32) (q : Fin 40) (x : Fin 2048) :
    rowFrom E q (ix2 0 x) = E (ix2 0 ⟨q.val + x.val, by omega⟩) := by
  unfold rowFrom
  refine congrArg E (funext fun a => Fin.ext ?_)
  fin_cases a
  · rfl
  · rfl

/-- The table, read at row `s`: place `s + 2 x` of the two rows interleaved. -/
theorem table_apply (s : Fin 80) (x : Fin 2048) : kernelRun0.sl.v241 c i arg1 arg2 f1 f2 (ix2 s x)
    = place i (arg1.view.read (Elt F) f1) (arg2.view.read (Elt F) f2) (s.val + 2 * x.val) := by
  have hc : kernelRun0.sl.v241 c i arg1 arg2 f1 f2 (ix2 s x) = kernelRun0.sl.v238 c i arg1 arg2 f1 f2 (ix2 s x) := by
    unfold kernelRun0.sl.v241
    rw [shapeCast_self]
  rw [hc]
  unfold place
  have hx := x.isLt
  have hs := s.isLt
  rcases Nat.even_or_odd' s.val with ⟨q, hq | hq⟩
  · have e : s = ⟨2 * (⟨q, by omega⟩ : Fin 40).val, by omega⟩ := Fin.ext hq
    rw [if_pos (by omega), e, table_even, rowFrom_apply, run_evens]
    refine congrArg (fun z => evens i _ _ (ix2 0 z)) (Fin.ext ?_)
    show q + x.val = (2 * q + 2 * x.val) / 2 % 4096
    omega
  · have e : s = ⟨2 * (⟨q, by omega⟩ : Fin 40).val + 1, by omega⟩ := Fin.ext hq
    rw [if_neg (by omega), e, table_odd, rowFrom_apply, run_odds]
    refine congrArg (fun z => odds i _ _ (ix2 0 z)) (Fin.ext ?_)
    show q + x.val = (2 * q + 1 + 2 * x.val) / 2 % 4096
    omega

/-- What the staging buffer is to hold: entry `(a, j, r, x)` is place `4 a + j + r + 2 x`. -/
def staged (y : S4x4x64x2048.Idx) : F .f32 :=
  place i (arg1.view.read (Elt F) f1) (arg2.view.read (Elt F) f2) (4 * (y 0).val + (y 1).val + (y 2).val + 2 * (y 3).val)

omit [FloatOps F] in
/-- A load of 64 rows from row `k` of a table stored whole, read at `(r, x)`: the table at `(k + r, x)`. -/
theorem rows_load [∀ e, Nonempty (Elt F e)] (v : View sig .tc .vmem S80x2048 .f32) (w : S80x2048.Idx → F .f32) (k : ℕ)
    (inb0 : ∀ a, (![0, 0] : Fin 2 → ℕ) a + S80x2048.size a ≤ S80x2048.size a)
    (inb : ∀ a, (![k, 0] : Fin 2 → ℕ) a + S64x2048.size a ≤ S80x2048.size a) (r : Fin 64) (x : Fin 2048) (hk : k + r.val < 80) :
    v.readCov (Val := Elt F) [(⟨Rect.unit (s := S80x2048) ![0, 0] S80x2048.size inb0, w⟩ : View.Piece (Elt F) S80x2048 .f32)]
        (Rect.unit (s := S80x2048) ![k, 0] S64x2048.size inb).toLoadRect (ix2 r x)
      = w (ix2 ⟨k + r.val, hk⟩ x) := by
  have e : (Rect.unit (s := S80x2048) ![k, 0] S64x2048.size inb).toLoadRect.idx (ix2 r x) = ix2 ⟨k + r.val, hk⟩ x := by
    refine funext fun a => Fin.ext ?_
    fin_cases a
    · show k + 1 * r.val = k + r.val
      omega
    · show 0 + 1 * x.val = x.val
      omega
  unfold View.readCov View.readAt
  rw [e]
  exact congrFun (View.read_writes_full (Val := Elt F) v v.junk inb0 w []) (ix2 ⟨k + r.val, hk⟩ x)

/-- A load of 64 rows of the table from row `k`, read at `(r, x)`: place `k + r + 2 x`. -/
theorem load_apply (k : ℕ) (inb : ∀ a, (![k, 0] : Fin 2 → ℕ) a + S64x2048.size a ≤ S80x2048.size a) (r : Fin 64) (x : Fin 2048) :
    mM.view.readCov (kernelRun0.sl.HS0_1 c i arg1 arg2 f1 f2) (Rect.unit (s := S80x2048) ![k, 0] S64x2048.size inb).toLoadRect (ix2 r x)
      = place i (arg1.view.read (Elt F) f1) (arg2.view.read (Elt F) f2) (k + r.val + 2 * x.val) := by
  have hk : k + 64 ≤ 80 := inb 0
  have hr := r.isLt
  unfold kernelRun0.sl.HS0_1
  exact (rows_load _ _ k _ inb r x (by omega)).trans (table_apply c i arg1 arg2 f1 f2 ⟨k + r.val, by omega⟩ x)

/-- A load of 64 rows stored as one row of blocks of the staging buffer is what the buffer is to hold there. -/
theorem stored_apply (a j : ℕ) (k : ℕ) (hk : k = 4 * a + j)
    (inb : ∀ b, (![k, 0] : Fin 2 → ℕ) b + S64x2048.size b ≤ S80x2048.size b)
    (inb' : ∀ b, (![a, j, 0, 0] : Fin 4 → ℕ) b + S1x1x64x2048.size b ≤ S4x4x64x2048.size b)
    (z : S1x1x64x2048.Idx) :
    shapeCast S1x1x64x2048 (mM.view.readCov (kernelRun0.sl.HS0_1 c i arg1 arg2 f1 f2)
        (Rect.unit (s := S80x2048) ![k, 0] S64x2048.size inb).toLoadRect) shapeCasts_S64x2048_S1x1x64x2048 z
      = staged c i arg1 arg2 f1 f2 ((Rect.unit (s := S4x4x64x2048) ![a, j, 0, 0] S1x1x64x2048.size inb').emb z) := by
  have h0 : (z 0).val = 0 := by have := (z 0).isLt; exact Nat.lt_one_iff.mp this
  have h1 : (z 1).val = 0 := by have := (z 1).isLt; exact Nat.lt_one_iff.mp this
  have e : Shape.reshapeEquiv shapeCasts_S64x2048_S1x1x64x2048 z = ix2 (n0 := 64) (n1 := 2048) (z 2) (z 3) := by
    refine Shape.reshapeEquiv_eq_of_rowMajor _ ?_
    rw [rowMajor_val2 _ _ rfl, rowMajor_val4 _ _ _ _ rfl rfl rfl, h0, h1]
    show (z 2).val * 2048 + (z 3).val = 0 * _ + 0 * _ + (z 2).val * 2048 + (z 3).val
    omega
  unfold shapeCast
  rw [e]
  refine (load_apply c i arg1 arg2 f1 f2 k inb (z 2) (z 3)).trans ?_
  unfold staged
  refine congrArg _ ?_
  show k + (z 2).val + 2 * (z 3).val = 4 * (a + 1 * (z 0).val) + (j + 1 * (z 1).val) + (0 + 1 * (z 2).val) + 2 * (0 + 1 * (z 3).val)
  omega

end

end Cert.KernelIdeal.Hand
end
-- ==== Proof.Staging.lean ====
/- What the run of one grid point leaves in the result array: the staging buffer's sixteen blocks, the four transfers out
   of it, and with them `stepOut`. -/
module

public import proofs.«01_k».proof.Proof.Contents

@[expose] public section

noncomputable section

namespace Cert.KernelIdeal.Hand

open Cert.KernelIdeal Cert.KernelIdeal.Gen
open Idealize.ShloMosaic Idealize.ShloMosaic.TcCoe

variable {F : FTy → Type} [FloatOps F]
variable (c : Dev nD) (i : grid0.Coords) (arg1 : Memref sig .tc .vmem S4x2048 .f32) (arg2 : Memref sig .tc .vmem S1x64 .f32)
  (f1 : BufOf (F := F) c arg1) (f2 : BufOf (F := F) c arg2)

/-- Every piece stored into the staging buffer holds what the buffer is to hold at the piece's places. -/
def Staged (L : List (View.Piece (Elt F) S4x4x64x2048 .f32)) : Prop :=
  ∀ p ∈ L, ∀ x : p.1.shape.Idx, p.2 x = staged c i arg1 arg2 f1 f2 (p.1.emb x)

/-- No piece yet. -/
theorem staged_nil : Staged c i arg1 arg2 f1 f2 [] := fun _ h => absurd h List.not_mem_nil

variable {c i arg1 arg2 f1 f2}

/-- One more piece that holds what the buffer is to hold. -/
theorem staged_piece (R : Rect S4x4x64x2048) (w : R.shape.Idx → F .f32) (hw : ∀ x, w x = staged c i arg1 arg2 f1 f2 (R.emb x))
    {L : List (View.Piece (Elt F) S4x4x64x2048 .f32)} (hL : Staged c i arg1 arg2 f1 f2 L) :
    Staged c i arg1 arg2 f1 f2 ((⟨R, w⟩ : View.Piece (Elt F) S4x4x64x2048 .f32) :: L) := by
  intro p hp
  obtain hp | hp := List.mem_cons.mp hp
  · subst hp
    exact hw
  · exact hL p hp

/-- One more piece: 64 rows of the table from row `4 a + j`, stored at block `(a, j)`. -/
theorem staged_cons (a j k : ℕ) (hk : k = 4 * a + j)
    (inb : ∀ b, (![k, 0] : Fin 2 → ℕ) b + S64x2048.size b ≤ S80x2048.size b)
    (inb' : ∀ b, (![a, j, 0, 0] : Fin 4 → ℕ) b + S1x1x64x2048.size b ≤ S4x4x64x2048.size b)
    {L : List (View.Piece (Elt F) S4x4x64x2048 .f32)} (hL : Staged c i arg1 arg2 f1 f2 L) :
    Staged c i arg1 arg2 f1 f2 ((⟨Rect.unit (s := S4x4x64x2048) ![a, j, 0, 0] S1x1x64x2048.size inb',
        shapeCast S1x1x64x2048 (mM.view.readCov (kernelRun0.sl.HS0_1 c i arg1 arg2 f1 f2)
          (Rect.unit (s := S80x2048) ![k, 0] S64x2048.size inb).toLoadRect) shapeCasts_S64x2048_S1x1x64x2048⟩ :
        View.Piece (Elt F) S4x4x64x2048 .f32) :: L) := by
  exact staged_piece _ _ (stored_apply c i arg1 arg2 f1 f2 a j k hk inb inb') hL

variable (c i arg1 arg2 f1 f2)

/-- The four pieces stored before the first transfer. -/
theorem staged_4 : Staged c i arg1 arg2 f1 f2 (kernelRun0.sl.HS1_4 c i arg1 arg2 f1 f2) :=
  staged_cons 0 3 _ rfl _ _ (staged_cons 0 2 _ rfl _ _ (staged_cons 0 1 _ rfl _ _ (staged_cons 0 0 _ rfl _ _ (staged_nil c i arg1 arg2 f1 f2))))

/-- The eight stored before the second. -/
theorem staged_8 : Staged c i arg1 arg2 f1 f2 (kernelRun0.sl.HS1_8 c i arg1 arg2 f1 f2) :=
  staged_cons 1 3 _ rfl _ _ (staged_cons 1 2 _ rfl _ _ (staged_cons 1 1 _ rfl _ _ (staged_cons 1 0 _ rfl _ _ (staged_4 c i arg1 arg2 f1 f2))))

/-- The twelve stored before the third. -/
theorem staged_12 : Staged c i arg1 arg2 f1 f2 (kernelRun0.sl.HS1_12 c i arg1 arg2 f1 f2) :=
  staged_cons 2 3 _ rfl _ _ (staged_cons 2 2 _ rfl _ _ (staged_cons 2 1 _ rfl _ _ (staged_cons 2 0 _ rfl _ _ (staged_8 c i arg1 arg2 f1 f2))))

/-- The sixteen stored before the fourth. -/
theorem staged_16 : Staged c i arg1 arg2 f1 f2 (kernelRun0.sl.HS1_16 c i arg1 arg2 f1 f2) :=
  staged_cons 3 3 _ rfl _ _ (staged_cons 3 2 _ rfl _ _ (staged_cons 3 1 _ rfl _ _ (staged_cons 3 0 _ rfl _ _ (staged_12 c i arg1 arg2 f1 f2))))

omit [FloatOps F] in
/-- The four blocks `(a, 0)` … `(a, 3)` hold every place of slab `a`. -/
theorem slab_covered (a : ℕ)
    (i0 : ∀ b, (![a, 0, 0, 0] : Fin 4 → ℕ) b + S1x1x64x2048.size b ≤ S4x4x64x2048.size b)
    (i1 : ∀ b, (![a, 1, 0, 0] : Fin 4 → ℕ) b + S1x1x64x2048.size b ≤ S4x4x64x2048.size b)
    (i2 : ∀ b, (![a, 2, 0, 0] : Fin 4 → ℕ) b + S1x1x64x2048.size b ≤ S4x4x64x2048.size b)
    (i3 : ∀ b, (![a, 3, 0, 0] : Fin 4 → ℕ) b + S1x1x64x2048.size b ≤ S4x4x64x2048.size b)
    (w0 w1 w2 w3 : S1x1x64x2048.Idx → F .f32) (L : List (View.Piece (Elt F) S4x4x64x2048 .f32))
    (y : S4x4x64x2048.Idx) (hy : (y 0).val = a) :
    ∃ p ∈ ((⟨Rect.unit (s := S4x4x64x2048) ![a, 3, 0, 0] S1x1x64x2048.size i3, w3⟩ : View.Piece (Elt F) S4x4x64x2048 .f32)
      :: ⟨Rect.unit (s := S4x4x64x2048) ![a, 2, 0, 0] S1x1x64x2048.size i2, w2⟩
      :: ⟨Rect.unit (s := S4x4x64x2048) ![a, 1, 0, 0] S1x1x64x2048.size i1, w1⟩
      :: ⟨Rect.unit (s := S4x4x64x2048) ![a, 0, 0, 0] S1x1x64x2048.size i0, w0⟩ :: L), y ∈ p.1.set := by
  have key (j : ℕ) (hj : (y 1).val = j) (ij : ∀ b, (![a, j, 0, 0] : Fin 4 → ℕ) b + S1x1x64x2048.size b ≤ S4x4x64x2048.size b) :
      y ∈ (Rect.unit (s := S4x4x64x2048) ![a, j, 0, 0] S1x1x64x2048.size ij).set := by
    refine Rect.mem_set_unit.mpr fun b => ?_
    have hb := (y b).isLt
    fin_cases b
    · show a ≤ (y 0).val ∧ (y 0).val < a + 1
      omega
    · show j ≤ (y 1).val ∧ (y 1).val < j + 1
      omega
    · exact ⟨Nat.zero_le _, hb.trans_eq (Nat.zero_add _).symm⟩
    · exact ⟨Nat.zero_le _, hb.trans_eq (Nat.zero_add _).symm⟩
  have h4 : (y 1).val < 4 := (y 1).isLt
  obtain h | h | h | h : (y 1).val = 3 ∨ (y 1).val = 2 ∨ (y 1).val = 1 ∨ (y 1).val = 0 := by omega
  · exact ⟨_, .head _, key 3 h i3⟩
  · exact ⟨_, .tail _ (.head _), key 2 h i2⟩
  · exact ⟨_, .tail _ (.tail _ (.head _)), key 1 h i1⟩
  · exact ⟨_, .tail _ (.tail _ (.tail _ (.head _))), key 0 h i0⟩

/-- Slab `a` of the staging buffer, read whole as a transfer reads it: entry `(q, r, x)` is place `4 a + q + r + 2 x`. -/
theorem slab_read (a : ℕ) (fs1 : BufOf (F := F) c stM) (L : List (View.Piece (Elt F) S4x4x64x2048 .f32))
    (hL : Staged c i arg1 arg2 f1 f2 L) (hc : ∀ y : S4x4x64x2048.Idx, (y 0).val = a → ∃ p ∈ L, y ∈ p.1.set)
    (inb : ∀ b, (![a, 0, 0, 0] : Fin 4 → ℕ) b + S1x4x64x2048.size b ≤ S4x4x64x2048.size b) (hs) (hq)
    (z : S4x64x2048.Idx) :
    ReadAs.same.apply (View.read (Elt F)
        ((stM.slice (Rect.unit (s := S4x4x64x2048) ![a, 0, 0, 0] S1x4x64x2048.size inb) hs).squeeze S4x64x2048 hq).view
        (stM.view.writes (Elt F) fs1 L)) z
      = place i (arg1.view.read (Elt F) f1) (arg2.view.read (Elt F) f2) (4 * a + (z 0).val + (z 1).val + 2 * (z 2).val) := by
  have e : Shape.reshapeEquiv (Shape.Squeezes.numel_eq hq) z = ix4 (n0 := 1) (n1 := 4) (n2 := 64) (n3 := 2048) 0 (z 0) (z 1) (z 2) := by
    refine Shape.reshapeEquiv_eq_of_rowMajor _ ?_
    rw [rowMajor_val3 _ _ _ rfl rfl, rowMajor_val4 _ _ _ _ rfl rfl rfl]
    show 0 * _ + (z 0).val * _ + (z 1).val * _ + (z 2).val = (z 0).val * _ + (z 1).val * _ + (z 2).val
    rw [Nat.zero_mul, Nat.zero_add]
    rfl
  show stM.view.read (Elt F) (stM.view.writes (Elt F) fs1 L)
    ((Rect.unit (s := S4x4x64x2048) ![a, 0, 0, 0] S1x4x64x2048.size inb).emb (Shape.reshapeEquiv (Shape.Squeezes.numel_eq hq) z)) = _
  rw [e]
  refine (View.read_writes_apply_of_pieces (Val := Elt F) (e := .f32) stM.view fs1 (staged c i arg1 arg2 f1 f2) L hL _ (hc _ ?_)).trans ?_
  · show a + 1 * 0 = a
    omega
  · unfold staged
    refine congrArg _ ?_
    show 4 * (a + 1 * 0) + (0 + 1 * (z 0).val) + (0 + 1 * (z 1).val) + 2 * (0 + 1 * (z 2).val) = _
    omega

/-- What the result array is to hold in the grid point's own rows. -/
def band (idx : S32x64x2048.Idx) : F .f32 :=
  place i (arg1.view.read (Elt F) f1) (arg2.view.read (Elt F) f2) ((idx 0).val - 16 * (i 0).val + (idx 1).val + 2 * (idx 2).val)

/-- A transfer's four rows hold what the result array is to hold there. -/
theorem band_piece (a : ℕ) (off : Fin 3 → ℕ) (hoff : off = ![16 * (i 0).val + 4 * a, 0, 0])
    (inb : ∀ b, off b + S4x64x2048.size b ≤ S32x64x2048.size b) (w : S4x64x2048.Idx → F .f32)
    (hw : ∀ z : S4x64x2048.Idx, w z
      = place i (arg1.view.read (Elt F) f1) (arg2.view.read (Elt F) f2) (4 * a + (z 0).val + (z 1).val + 2 * (z 2).val))
    (z : S4x64x2048.Idx) : w z = band c i arg1 arg2 f1 f2 ((Rect.unit (s := S32x64x2048) off S4x64x2048.size inb).emb z) := by
  subst hoff
  rw [hw]
  unfold band
  refine congrArg _ ?_
  show _ = (16 * (i 0).val + 4 * a + 1 * (z 0).val) - 16 * (i 0).val + (0 + 1 * (z 1).val) + 2 * (0 + 1 * (z 2).val)
  omega

omit [FloatOps F] in
/-- Transfer `r` of the grid point, as a write into the result array: four outer rows from row `16 i + 4 r`. -/
def transfer (r : Fin 4) (w : S4x64x2048.Idx → F .f32) : View.Piece (Elt F) S32x64x2048 .f32 :=
  ⟨Rect.unit (s := S32x64x2048) (k0_off1 i (BitVec.ofNat 32 (4 * r.val))) S4x64x2048.size (k0_off1_inb i r), w⟩

omit [FloatOps F] in
/-- The places a transfer writes: the four outer rows from row `16 i + 4 r`. -/
theorem mem_transfer (r : Fin 4) (w : S4x64x2048.Idx → F .f32) (idx : S32x64x2048.Idx) :
    idx ∈ (transfer i r w).1.set ↔ 16 * (i 0).val + 4 * r.val ≤ (idx 0).val ∧ (idx 0).val < 16 * (i 0).val + 4 * r.val + 4 := by
  refine (Rect.mem_set_unit (inb := k0_off1_inb i r)).trans ?_
  rw [k0_off1_eq i r]
  constructor
  · exact fun h => h 0
  · intro h b
    have hb := (idx b).isLt
    fin_cases b
    · exact h
    · exact ⟨Nat.zero_le _, hb.trans_eq (Nat.zero_add _).symm⟩
    · exact ⟨Nat.zero_le _, hb.trans_eq (Nat.zero_add _).symm⟩

omit [FloatOps F] in
/-- Writes into the whole result array, each carrying values of one function `G`: a place some write covers holds `G`
there, and any other place keeps what it held. -/
theorem writes_out (g : BufOf (F := F) c outM) (L : List (View.Piece (Elt F) S32x64x2048 .f32)) (G : S32x64x2048.Idx → F .f32)
    (hG : ∀ p ∈ L, ∀ z : p.1.shape.Idx, p.2 z = G (p.1.emb z)) (idx : S32x64x2048.Idx) (C : Prop) [Decidable C]
    (hin : C → ∃ p ∈ L, idx ∈ p.1.set) (hout : ¬C → ∀ p ∈ L, idx ∉ p.1.set) :
    outM.view.writes (Elt F) g L idx = if C then G idx else g idx := by
  have hr (f : BufOf (F := F) c outM) : outM.view.read (Elt F) f = f := rfl
  refine (congrFun (hr _) idx).symm.trans ?_
  by_cases h : C
  · rw [if_pos h]
    exact View.read_writes_apply_of_pieces (Val := Elt F) (e := .f32) outM.view g G L hG idx (hin h)
  · rw [if_neg h]
    exact (View.read_writes_apply_of_forall_not_mem (Val := Elt F) (e := .f32) outM.view g idx L (hout h)).trans
      (congrFun (hr g) idx)

/-- What a transfer carries is what the result array is to hold. -/
theorem transfer_band (r : Fin 4) (w : S4x64x2048.Idx → F .f32)
    (hw : ∀ z : S4x64x2048.Idx, w z
      = place i (arg1.view.read (Elt F) f1) (arg2.view.read (Elt F) f2) (4 * r.val + (z 0).val + (z 1).val + 2 * (z 2).val)) :
    ∀ z : (transfer i r w).1.shape.Idx, (transfer i r w).2 z = band c i arg1 arg2 f1 f2 ((transfer i r w).1.emb z) :=
  band_piece c i arg1 arg2 f1 f2 r.val _ (k0_off1_eq i r) (k0_off1_inb i r) w hw

/-- The four transfers, each carrying its slab of places, leave `stepOut`. -/
theorem transfers_val (w0 w1 w2 w3 : S4x64x2048.Idx → F .f32)
    (h0 : ∀ z : S4x64x2048.Idx, w0 z
      = place i (arg1.view.read (Elt F) f1) (arg2.view.read (Elt F) f2) (4 * 0 + (z 0).val + (z 1).val + 2 * (z 2).val))
    (h1 : ∀ z : S4x64x2048.Idx, w1 z
      = place i (arg1.view.read (Elt F) f1) (arg2.view.read (Elt F) f2) (4 * 1 + (z 0).val + (z 1).val + 2 * (z 2).val))
    (h2 : ∀ z : S4x64x2048.Idx, w2 z
      = place i (arg1.view.read (Elt F) f1) (arg2.view.read (Elt F) f2) (4 * 2 + (z 0).val + (z 1).val + 2 * (z 2).val))
    (h3 : ∀ z : S4x64x2048.Idx, w3 z
      = place i (arg1.view.read (Elt F) f1) (arg2.view.read (Elt F) f2) (4 * 3 + (z 0).val + (z 1).val + 2 * (z 2).val))
    (g : BufOf (F := F) c outM) :
    outM.view.writes (Elt F) g [transfer i 3 w3, transfer i 2 w2, transfer i 1 w1, transfer i 0 w0]
      = stepOut i (arg1.view.read (Elt F) f1) (arg2.view.read (Elt F) f2) g := by
  funext idx
  refine writes_out c g _ (band c i arg1 arg2 f1 f2) ?_ idx _ ?_ ?_
  · intro p h
    simp only [List.mem_cons, List.not_mem_nil, or_false] at h
    rcases h with h | h | h | h
    · subst h; exact transfer_band c i arg1 arg2 f1 f2 3 w3 h3
    · subst h; exact transfer_band c i arg1 arg2 f1 f2 2 w2 h2
    · subst h; exact transfer_band c i arg1 arg2 f1 f2 1 w1 h1
    · subst h; exact transfer_band c i arg1 arg2 f1 f2 0 w0 h0
  · intro h
    obtain h' | h' | h' | h' : (16 * (i 0).val + 4 * 3 ≤ (idx 0).val ∧ (idx 0).val < 16 * (i 0).val + 4 * 3 + 4)
        ∨ (16 * (i 0).val + 4 * 2 ≤ (idx 0).val ∧ (idx 0).val < 16 * (i 0).val + 4 * 2 + 4)
        ∨ (16 * (i 0).val + 4 * 1 ≤ (idx 0).val ∧ (idx 0).val < 16 * (i 0).val + 4 * 1 + 4)
        ∨ (16 * (i 0).val + 4 * 0 ≤ (idx 0).val ∧ (idx 0).val < 16 * (i 0).val + 4 * 0 + 4) := by omega
    · exact ⟨_, .head _, (mem_transfer i 3 _ idx).mpr h'⟩
    · exact ⟨_, .tail _ (.head _), (mem_transfer i 2 _ idx).mpr h'⟩
    · exact ⟨_, .tail _ (.tail _ (.head _)), (mem_transfer i 1 _ idx).mpr h'⟩
    · exact ⟨_, .tail _ (.tail _ (.tail _ (.head _))), (mem_transfer i 0 _ idx).mpr h'⟩
  · intro h
    have hn (r : Fin 4) (w : S4x64x2048.Idx → F .f32) : idx ∉ (transfer i r w).1.set := fun hi => h (by
      have := (mem_transfer i r w idx).mp hi
      have := r.isLt
      omega)
    exact List.forall_mem_cons.mpr ⟨hn 3 w3, List.forall_mem_cons.mpr ⟨hn 2 w2, List.forall_mem_cons.mpr ⟨hn 1 w1,
      List.forall_mem_cons.mpr ⟨hn 0 w0, fun _ h => absurd h List.not_mem_nil⟩⟩⟩⟩

/-- What the run of one grid point leaves in the result array, from any contents of the scratch buffers. -/
theorem kernelRun0_val (harg1 : arg1.IsWhole) (harg2 : arg2.IsWhole) (fs0 : BufOf (F := F) c mM) (fs1 : BufOf (F := F) c stM)
    (g : BufOf (F := F) c outM) :
    (kernelRun0 c i arg1 harg1 arg2 harg2 f1 f2 fs0 fs1 g).1
      = stepOut i (arg1.view.read (Elt F) f1) (arg2.view.read (Elt F) f2) g := by
  refine Eq.trans ?_ (transfers_val c i arg1 arg2 f1 f2 (kernelRun0.sl.dma20 c i arg1 arg2 f1 f2 fs1)
    (kernelRun0.sl.dma32 c i arg1 arg2 f1 f2 fs1) (kernelRun0.sl.dma44 c i arg1 arg2 f1 f2 fs1)
    (kernelRun0.sl.dma56 c i arg1 arg2 f1 f2 fs1) ?_ ?_ ?_ ?_ g)
  · unfold kernelRun0
    dsimp only
    unfold kernelRun0.sl.Ho_w3 kernelRun0.sl.Ho_w2 kernelRun0.sl.Ho_w1 kernelRun0.sl.Ho_w0 transfer
    generalize kernelRun0.sl.dma20 c i arg1 arg2 f1 f2 fs1 = w0
    generalize kernelRun0.sl.dma32 c i arg1 arg2 f1 f2 fs1 = w1
    generalize kernelRun0.sl.dma44 c i arg1 arg2 f1 f2 fs1 = w2
    generalize kernelRun0.sl.dma56 c i arg1 arg2 f1 f2 fs1 = w3
    rfl
  · exact slab_read c i arg1 arg2 f1 f2 0 fs1 _ (staged_4 c i arg1 arg2 f1 f2) (slab_covered 0 _ _ _ _ _ _ _ _ _) _ _ _
  · exact slab_read c i arg1 arg2 f1 f2 1 fs1 _ (staged_8 c i arg1 arg2 f1 f2) (slab_covered 1 _ _ _ _ _ _ _ _ _) _ _ _
  · exact slab_read c i arg1 arg2 f1 f2 2 fs1 _ (staged_12 c i arg1 arg2 f1 f2) (slab_covered 2 _ _ _ _ _ _ _ _ _) _ _ _
  · exact slab_read c i arg1 arg2 f1 f2 3 fs1 _ (staged_16 c i arg1 arg2 f1 f2) (slab_covered 3 _ _ _ _ _ _ _ _ _) _ _ _

end Cert.KernelIdeal.Hand
end
-- ==== Proof.Region.lean ====
/- The whole program run: the grid's two points one after the other, what they leave in the result array (`final`), the
   arguments unchanged and every counter at zero. -/
module

public import proofs.«01_k».proof.Proof.Staging

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the kernel holds besides its two input blocks -/

/-- The array the kernel writes by its own transfers: the result. -/
def R0 : Finset (Ref sig .tc) := {main_v6}

/-- The kernel reads no array left in main memory. -/
def H0 : Finset (Ref sig .tc) := ∅

theorem H0_sub : H0 ⊆ Pipeline.restRefs sig spec0 := by decide

theorem R0_sub : R0 ⊆ Pipeline.restRefs sig spec0 \ H0 := by decide

/-- The kernel's four counters, one for each transfer. -/
abbrev osem0 : Fin 4 → SemLoc sig := fun j => (![SemLoc.dma 2, SemLoc.dma 3, SemLoc.dma 4, SemLoc.dma 5] : Fin 4 → SemLoc sig) j

theorem ownSemFacts0 : Pipeline.OwnSemFacts spec0 osem0 := by decide

/-- The four counters at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0
          ∗ semVal ((c : Thread nD τ), SemLoc.dma 4) 0 ∗ semVal ((c : Thread nD τ), SemLoc.dma 5) 0) := by
  rw [Pipeline.ownSems0_eq_of_list c osem0 [0, 1, 2, 3] (by decide) (by decide)]; rfl

/-- The host operations before the kernel, then the kernel's region. -/
theorem hmain_own (𝒱₀ : Variants) : Pipeline.HMain (Ix := Unit) (Name := ℕ) (U := Pipeline.UD sig nD τ) (Lvl := ℕ) cfgs 0 defs₀ 𝒱₀ m
    (main (F := F)) (V m) :=
  Pipeline.hmain_prefix cfgs 0 defs₀ 𝒱₀ m main hostOps0 hostOps0_sub hostOps0_fresh main_chain

/-! ## The result array from point to point -/

/-- What the result array holds before point `p`. -/
def outAt (c : Dev nD) : ℕ → BufOf (F := F) c outM
  | 0 => V m c main_v6
  | p + 1 => if h : p < cfg0.N then stepOut (grid0.coords ⟨p, h⟩) (iblk m c 0 ⟨p, h⟩) (iblk m c 1 ⟨p, h⟩) (outAt c p) else outAt c p

/-- One more point: that point's rows are written. -/
theorem outAt_succ (c : Dev nD) (t : Fin cfg0.N) :
    outAt m c (t.val + 1) = stepOut (grid0.coords t) (iblk m c 0 t) (iblk m c 1 t) (outAt m c t.val) :=
  dif_pos t.isLt

/-- Every array before point `p`: as the kernel finds it, but for the result. -/
def heldAt (p : ℕ) (c : Dev nD) (b : Ref sig .tc) : Buf (Elt F) ((c : Thread nD τ).loc b) :=
  Function.update (V m c) main_v6 (outAt m c p) b

/-- Before the first point nothing is written. -/
theorem heldAt_zero : heldAt m 0 = V m := by
  funext c
  exact Function.update_eq_self main_v6 (V m c)

/-- The result array among them. -/
theorem heldAt_out (p : ℕ) (c : Dev nD) : heldAt m p c main_v6 = outAt m c p := by
  unfold heldAt
  exact Function.update_self main_v6 _ _

/-- The invariant before point `p`, conjunct by conjunct. -/
theorem inv_eq (p : ℕ) (c : Dev nD) :
    (Pipeline.ΦDRG osem0 spec0 H0 R0 (V m) (heldAt m p) c : sProp 𝕄)
      = iprop(iprop((∃ f, ptOf c mM f) ∗ (∃ f, ptOf c stM f))
          ∗ (∃ r, prngReg c r)
          ∗ iprop(semVal ((c : Thread nD τ), SemLoc.dma 2) 0 ∗ semVal ((c : Thread nD τ), SemLoc.dma 3) 0
              ∗ semVal ((c : Thread nD τ), SemLoc.dma 4) 0 ∗ semVal ((c : Thread nD τ), SemLoc.dma 5) 0)
          ∗ iprop(emp) ∗ ptOf c outM (outAt m c p)) := by
  rw [Pipeline.ΦDRG_eq, scopedRest0_eq, ownSems00_eq]
  unfold Pipeline.routed R0 H0 heldAt
  rw [BI.bigSep_empty, BI.bigSep_eq_bigSepL_of_eq [main_v6] (by decide) (by decide)]
  simp only [BI.bigSepL_singleton, Function.update_self]
  rfl

/-! ## The proof data and the body -/

/-- The two input blocks stay in place; the result array goes from point to point as `outAt` says. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ p := Pipeline.ΦDRG osem0 spec0 H0 R0 (V m) (heldAt m p.val) c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by
  dsimp only [dats]

theorem after_t (c : Dev nD) (t : Fin cfg0.N) : (dats m 0 c).after 1 t = iblk m c 1 t := by
  dsimp only [dats]

/-- Input block 0 is in its buffer at every point. -/
theorem before_x (c : Dev nD) (t : Fin cfg0.N) (d) : (dats m 0 c).before 0 t d = iblk m c 0 t :=
  ((dats m 0 c).before_in_eq_fetched 0 rfl (fun _ => rfl) (fun _ _ _ => rfl)
    (fun t => by rw [after_x]; unfold Dat.blockOf iblk; rw [A_eq]; try rfl) t d).trans
    (by unfold Dat.fetched Dat.blockOf iblk; rw [A_eq]; try rfl)

/-- Input block 1 likewise. -/
theorem before_t (c : Dev nD) (t : Fin cfg0.N) (d) : (dats m 0 c).before 1 t d = iblk m c 1 t :=
  ((dats m 0 c).before_in_eq_fetched 1 rfl (fun _ => rfl) (fun _ _ _ => rfl)
    (fun t => by rw [after_t]; unfold Dat.blockOf iblk; rw [A_eq]; try rfl) t d).trans
    (by unfold Dat.fetched Dat.blockOf iblk; rw [A_eq]; try rfl)

abbrev xM (t : Fin cfg0.N) : Memref sig .tc .vmem S4x2048 .f32 := win0_0.stage (cfg0.slots t 0)
abbrev tM (t : Fin cfg0.N) : Memref sig .tc .vmem S1x64 .f32 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (xM t) fullShare ((dats m 0 c).before 0 t d))
    ∗ (∃ d, owns (c : Thread nD τ) (tM t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (xM t) fullShare ((dats m 0 c).after 0 t)
    ∗ owns (c : Thread nD τ) (tM t) fullShare ((dats m 0 c).after 1 t))

/-- One point, from the invariant before it to the invariant after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_t, after_x, after_t]
  rw [show (dats m 0 c).Φ t.castSucc = Pipeline.ΦDRG osem0 spec0 H0 R0 (V m) (heldAt m t.val) c from rfl,
    show (dats m 0 c).Φ t.succ = Pipeline.ΦDRG osem0 spec0 H0 R0 (V m) (heldAt m (t.val + 1)) c from rfl, inv_eq, inv_eq, outAt_succ]
  unfold Dat.owesAt Pipeline.owesWithin
  rw [show (dats m 0 c).owed t.castSucc = 0 from rfl, show (dats m 0 c).owed t.succ = 0 from rfl]
  unfold owns
  iintro ⟨⟨⟨⟨%fs0, HS0⟩, ⟨%fs1, HS1⟩⟩, Hg, ⟨Hq0, Hq1, Hq2, Hq3⟩, He, Ho⟩, ⟨%W, -, HW⟩, ⟨%d1, %f1, %h1, H1⟩, ⟨%d2, %f2, %h2, H2⟩⟩
  have hv := kernelRun0_val c (grid0.coords t) (xM t) (tM t) f1 f2 (hstage0_0 ((cfg0.slots t 0).cast nbuf0_0))
    (hstage0_1 ((cfg0.slots t 1).cast nbuf0_1)) fs0 fs1 (outAt m c t.val)
  rw [h1, h2] at hv
  rw [← hv]
  iapply ((kernelRun0 c (grid0.coords t) (xM t) (hstage0_0 ((cfg0.slots t 0).cast nbuf0_0)) (tM t)
    (hstage0_1 ((cfg0.slots t 1).cast nbuf0_1)) f1 f2 fs0 fs1 (outAt m c t.val)).2 W _)
  isplitl [H1]; · iexact H1
  isplitl [H2]; · iexact H2
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Ho]; · iexact Ho
  isplitl [HW]; · iexact HW
  iintro ⟨H1, H2, HS0, HS1, Hq0, Hq1, Hq2, Hq3, Ho, ⟨%W', HW'⟩⟩
  isplitl [HS0 HS1 Hg Hq0 Hq1 Hq2 Hq3 He Ho]
  · isplitl [HS0 HS1]
    · isplitl [HS0]; · iexact HS0
      iexact HS1
    isplitl [Hg]; · iexact Hg
    isplitl [Hq0 Hq1 Hq2 Hq3]
    · isplitl [Hq0]; · iexact Hq0
      isplitl [Hq1]; · iexact Hq1
      isplitl [Hq2]; · iexact Hq2
      iexact Hq3
    isplitl [He]; · iexact He
    iexact Ho
  isplitl [HW']
  · iexists W'; isplitr; · ipureintro; exact fun _ _ => Or.inl trivial
    iexact HW'
  isplitl [H1]
  · iexists f1; isplitr; · ipureintro; exact h1
    iexact H1
  · iexists f2; isplitr; · ipureintro; exact h2
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What the result array holds after the last point. -/
def final (c : Dev nD) : BufOf (F := F) c outM := outAt m c cfg0.N

set_option backward.isDefEq.respectTransparency.types false in
/-- The program runs to its end: no array but the result is changed, the result array holds `final`, every counter is at
zero. -/
theorem run_main : θ_run defs (onTc (τ := τ) (main (F := F))) (s₀ m ρ)
    (fun r => Pipeline.FramePostRG cfgs (dats m) 0 R0 (V m) (heldAt m cfg0.N) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain_own m Variants.none) (hA := A_eq m) (G := heldAt m cfg0.N)
    (hin := fun c => Entails.of_eq (congrArg (fun G => Pipeline.ΦDRG osem0 spec0 H0 R0 (V m) G c) (heldAt_zero m).symm))
    (hout := fun _ => .rfl)

/-- The program runs to its end with the result at `final`, the arguments unchanged, every counter at zero. -/
theorem value : θ_run defs (onTc (τ := τ) (main (F := F))) ⟨m, fun _ => 0, ρ⟩ (fun r => (∀ c : Dev nD,
      r.2.mem ((c.tc : Thread nD τ).loc main_v6) = final m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1.written c (show main_v6 ∈ R0 by decide)).trans (heldAt_out m cfg0.N c),
      ((h.1.toR c).2 main_arg0 (Finset.mem_sdiff.mpr ⟨Pipeline.mem_restRefs_of main_arg0 (by decide) (by decide), by decide⟩)).trans
        (V_main_arg0 m c),
      ((h.1.toR c).2 main_arg1 (Finset.mem_sdiff.mpr ⟨Pipeline.mem_restRefs_of main_arg1 (by decide) (by decide), by decide⟩)).trans
        (V_main_arg1 m c)⟩, h.2⟩) (run_main m ρ)

/-- The program runs to its end with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (value m ρ)

end Cert.KernelIdeal.Hand

end
-- ==== Proof.Frames.lean ====
/- Each program runs to its end with its arguments unchanged and every counter at zero. -/
module

public import proofs.«01_k».proof.Defs
public import proofs.«01_k».proof.Proof.Region
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Frames

open Idealize.ShloMosaic Idealize.SL.Sem

/-- The side conditions of the precondition's two operations. -/
theorem pre_facts : Cert.Pre_read_scales_nonzero.Facts := ⟨by decide, by decide⟩

/-! ## The kernel over the machine's floats

It is the same text as the kernel over the extended reals, printed a second time: the two programs are equal at any floats,
so the run of the one is the run of the other. -/

section Same

variable {F : FTy → Type} [FloatOps F]

/-- The same main program. -/
theorem main_same : Cert.Kernel.main (F := F) = Cert.KernelIdeal.main (F := F) := rfl

/-- The same kernel body. -/
theorem defs₀_same : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l a
  match l, a with
  | 0, (t, s) => rfl

/-- The same body table. -/
theorem defs_same : Cert.Kernel.defs (F := F) = Cert.KernelIdeal.defs (F := F) :=
  congrArg (Pipeline.defs Cert.Kernel.pcfgs) defs₀_same

end Same

/-- The kernel over the machine's floats. -/
theorem kernel : Cert.quiescent_Kernel (hKernel := Cert.Kernel.Gen.facts) := fun m g _ => by
  rw [defs_same, main_same]
  exact Cert.KernelIdeal.Hand.frame (F := Bits) m g

/-- The kernel over the extended reals. -/
theorem kernelIdeal : Cert.quiescent_KernelIdeal (hKernelIdeal := Cert.KernelIdeal.Gen.facts) := fun m g _ =>
  Cert.KernelIdeal.Hand.frame (F := Ideal) m g

/-- The reference; it declares no counter. -/
theorem referenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

end Cert.Frames

end
-- ==== Proof.Dilation.lean ====
/- The mathematics both programs share, over the extended reals: a row with no entries before its
   start and after its end, and the largest of seven neighbours, each lowered by a weight. -/
module

public import Idealize.ShloMosaic.Lib.Pointwise

@[expose] public section

noncomputable section

namespace Cert.Dilation

open Idealize.ShloMosaic

/-! ## The constants -/

theorem word_neg_inf : Ideal.ofBits .f32 0xFF800000#32 = ⊥ := by
  simp [Ideal.ofBits, Ideal.ieee]

theorem word_six : Ideal.ofBits .f32 0x40C00000#32 = ((6 : ℝ) : EReal) := by
  simp [Ideal.ofBits, Ideal.ieee, -EReal.coe_mul]; norm_num

theorem word_four : Ideal.ofBits .f32 0x40800000#32 = ((4 : ℝ) : EReal) := by
  simp [Ideal.ofBits, Ideal.ieee, -EReal.coe_mul]; norm_num

theorem word_quarter : Ideal.ofBits .f32 0x3E800000#32 = ((1 / 4 : ℝ) : EReal) := by
  simp [Ideal.ofBits, Ideal.ieee, -EReal.coe_mul]; norm_num

theorem word_neg_one : Ideal.ofBits .f32 0xBF800000#32 = ((-1 : ℝ) : EReal) := by
  simp [Ideal.ofBits, Ideal.ieee, -EReal.coe_mul, -EReal.coe_neg]; norm_num

theorem word_neg_four : Ideal.ofBits .f32 0xC0800000#32 = ((-4 : ℝ) : EReal) := by
  simp [Ideal.ofBits, Ideal.ieee, -EReal.coe_mul, -EReal.coe_neg]; norm_num

theorem word_neg_nine : Ideal.ofBits .f32 0xC1100000#32 = ((-9 : ℝ) : EReal) := by
  simp [Ideal.ofBits, Ideal.ieee, -EReal.coe_mul, -EReal.coe_neg]; norm_num

/-! ## Rows, taps and weights -/

/-- A row of 4096 numbers with three entries `−∞` in front and `−∞` behind: position `p` holds the row's
    number `p − 3`. -/
def entry (g : Fin 4096 → EReal) (p : ℕ) : EReal :=
  if h : 3 ≤ p ∧ p < 4099 then g ⟨p - 3, by omega⟩ else ⊥

theorem entry_inside (g : Fin 4096 → EReal) {p : ℕ} (h : 3 ≤ p ∧ p < 4099) :
    entry g p = g ⟨p - 3, by omega⟩ := dif_pos h

theorem entry_outside (g : Fin 4096 → EReal) {p : ℕ} (h : ¬ (3 ≤ p ∧ p < 4099)) : entry g p = ⊥ := dif_neg h

/-- The largest of the seven numbers `g (q + j) + w j`. -/
def best (g w : ℕ → EReal) (q : ℕ) : EReal :=
  max (max (max (max (max (max (g q + w 0) (g (q + 1) + w 1)) (g (q + 2) + w 2)) (g (q + 3) + w 3))
    (g (q + 4) + w 4)) (g (q + 5) + w 5)) (g (q + 6) + w 6)

/-- The weight of tap `j` at scale `t`: minus the square of its distance to the centre, over four times
    the scale. -/
def weight (t : EReal) (j : ℕ) : EReal := Ideal.div ((-((j : ℝ) - 3) ^ 2 : ℝ) : EReal) (((4 : ℝ) : EReal) * t)

theorem best_congr (g : ℕ → EReal) {w w' : ℕ → EReal} (h : ∀ j < 7, w j = w' j) (q : ℕ) : best g w q = best g w' q := by
  unfold best
  rw [h 0 (by decide), h 1 (by decide), h 2 (by decide), h 3 (by decide), h 4 (by decide), h 5 (by decide),
    h 6 (by decide)]

/-- Dividing by four times a scale is a quarter over the scale, taken so many times, at every scale but zero,
    the infinite ones included. -/
theorem div_four (k : ℝ) {t : EReal} (ht : t ≠ 0) :
    Ideal.div (k : EReal) (((4 : ℝ) : EReal) * t) = (k : EReal) * Ideal.div ((1 / 4 : ℝ) : EReal) t := by
  induction t using EReal.rec with
  | bot => simp [Ideal.div, EReal.coe_mul_bot_of_pos]
  | top => simp [Ideal.div, EReal.coe_mul_top_of_pos]
  | coe r =>
    have hr : r ≠ 0 := fun h => ht (by rw [h]; rfl)
    rw [← EReal.coe_mul, Ideal.div_coe (mul_ne_zero (by norm_num) hr), Ideal.div_coe hr, ← EReal.coe_mul,
      ← EReal.coe_mul, ← EReal.coe_mul]
    refine congrArg (fun x : ℝ => (x : EReal)) ?_
    field_simp

/-- Seven weights that are alike on both sides of the centre, and nothing at the centre. -/
def side (h1 h2 h3 : EReal) : ℕ → EReal
  | 0 => h3 | 1 => h2 | 2 => h1 | 3 => 0 | 4 => h1 | 5 => h2 | _ => h3

/-- The weights are a quarter over the scale times minus one, minus four and minus nine. -/
theorem side_eq_weight {t : EReal} (ht : t ≠ 0) (j : ℕ) (hj : j < 7) :
    side (((-1 : ℝ) : EReal) * Ideal.div ((1 / 4 : ℝ) : EReal) t) (((-4 : ℝ) : EReal) * Ideal.div ((1 / 4 : ℝ) : EReal) t)
      (((-9 : ℝ) : EReal) * Ideal.div ((1 / 4 : ℝ) : EReal) t) j = weight t j := by
  unfold weight
  rw [div_four _ ht]
  interval_cases j <;> norm_num [side]

/-- Position `p` of the rows written one after the other: the dilated row 0 first, then the dilated row 1. -/
def flat (g : ℕ → Fin 4096 → EReal) (t : ℕ → EReal) (p : ℕ) : EReal :=
  best (entry (g (p / 4096))) (weight (t (p / 4096))) (p % 4096)

end Cert.Dilation

end
-- ==== Proof.Taps.lean ====
/- One grid point's two dilated rows over the extended reals, entry by entry: the even places and the odd places
   apart, as the kernel computes them from the even and the odd entries of a row, are the places of the row's
   dilation; interleaved again and rotated they are the flat array from the grid point's first place on. -/
module

public import proofs.«01_k».proof.Proof.Block
public import proofs.«01_k».proof.Proof.Dilation
public import Idealize.ShloMosaic.Lib.Pointwise
public import Idealize.ShloMosaic.Lib.IdealHost
public import Idealize.ShloMosaic.Lib.Tactic.WordOmega

@[expose] public section

noncomputable section

namespace Cert.KernelIdeal.Hand

open Cert.KernelIdeal Cert.KernelIdeal.Gen
open Idealize.ShloMosaic
open Cert.Dilation

/-! ## A row read from its halves -/

/-- `xe` holds the even entries of row `g`, `xo` the odd ones. -/
structure Halves (g : Fin 4096 → EReal) (xe xo : FVec Ideal S1x2048 .f32) : Prop where
  even : ∀ (r : ℕ) (h : r < 2048), xe (ix2 0 ⟨r, h⟩) = g ⟨2 * r, by omega⟩
  odd : ∀ (r : ℕ) (h : r < 2048), xo (ix2 0 ⟨r, h⟩) = g ⟨2 * r + 1, by omega⟩

section
variable {g : Fin 4096 → EReal}

/-- A half moved `k` places to the right, `−∞` in front. -/
theorem moved_right (x : FVec Ideal S1x2048 .f32) (o : ℕ) (ho : o < 2)
    (hx : ∀ (r : ℕ) (h : r < 2048), x (ix2 0 ⟨r, h⟩) = g ⟨2 * r + o, by omega⟩) (k r p : ℕ) (hr : r < 2048)
    (hp : p + 2 * k = 2 * r + o + 3) (hk : 1 ≤ k) :
    (if h : r < k then Ideal.ofBits .f32 4286578688#32 else x (ix2 0 ⟨r - k, by omega⟩)) = entry g p := by
  by_cases h : r < k
  · rw [dif_pos h, entry_outside _ (by omega)]
    exact word_neg_inf
  · rw [dif_neg h, hx, entry_inside _ (by omega)]
    exact congrArg g (Fin.ext (by show 2 * (r - k) + o = p - 3; omega))

/-- A half moved `k` places to the left, `−∞` behind. -/
theorem moved_left (x : FVec Ideal S1x2048 .f32) (o : ℕ) (ho : o < 2)
    (hx : ∀ (r : ℕ) (h : r < 2048), x (ix2 0 ⟨r, h⟩) = g ⟨2 * r + o, by omega⟩) (k n r p : ℕ) (hn : n + k = 2048)
    (hp : p = 2 * r + 2 * k + o + 3) :
    (if h : r < n then x (ix2 0 ⟨k + r, by omega⟩) else Ideal.ofBits .f32 4286578688#32) = entry g p := by
  by_cases h : r < n
  · rw [dif_pos h, hx, entry_inside _ (by omega)]
    exact congrArg g (Fin.ext (by show 2 * (k + r) + o = p - 3; omega))
  · rw [dif_neg h, entry_outside _ (by omega)]
    exact word_neg_inf

theorem unmoved (x : FVec Ideal S1x2048 .f32) (o : ℕ) (ho : o < 2)
    (hx : ∀ (r : ℕ) (h : r < 2048), x (ix2 0 ⟨r, h⟩) = g ⟨2 * r + o, by omega⟩) (r p : ℕ) (hr : r < 2048)
    (hp : p = 2 * r + o + 3) : x (ix2 0 ⟨r, hr⟩) = entry g p := by
  rw [hx, entry_inside _ (by omega)]
  exact congrArg g (Fin.ext (by show 2 * r + o = p - 3; omega))

variable {xe xo : FVec Ideal S1x2048 .f32} (halves : Halves g xe xo)
include halves

/-- The kernel's seven taps at an even place. -/
theorem even_taps (h1 h2 h3 : EReal) (r : ℕ) (hr : r < 2048) :
    max (max
        (max ((if h : r < 2 then Ideal.ofBits .f32 4286578688#32 else xo (ix2 0 ⟨r - 2, by omega⟩)) + h3)
          ((if h : r < 1 then Ideal.ofBits .f32 4286578688#32 else xe (ix2 0 ⟨r - 1, by omega⟩)) + h2))
        (max ((if h : r < 1 then Ideal.ofBits .f32 4286578688#32 else xo (ix2 0 ⟨r - 1, by omega⟩)) + h1)
          (xe (ix2 0 ⟨r, hr⟩))))
      (max (xo (ix2 0 ⟨r, hr⟩) + h1)
        (max ((if h : r < 2047 then xe (ix2 0 ⟨1 + r, by omega⟩) else Ideal.ofBits .f32 4286578688#32) + h2)
          ((if h : r < 2047 then xo (ix2 0 ⟨1 + r, by omega⟩) else Ideal.ofBits .f32 4286578688#32) + h3)))
      = best (entry g) (side h1 h2 h3) (2 * r) := by
  rw [moved_right xo 1 (by decide) halves.odd 2 r (2 * r + 0) hr (by omega) (by decide),
    moved_right xe 0 (by decide) halves.even 1 r (2 * r + 1) hr (by omega) (by decide),
    moved_right xo 1 (by decide) halves.odd 1 r (2 * r + 2) hr (by omega) (by decide),
    unmoved xe 0 (by decide) halves.even r (2 * r + 3) hr (by omega),
    unmoved xo 1 (by decide) halves.odd r (2 * r + 4) hr (by omega),
    moved_left xe 0 (by decide) halves.even 1 2047 r (2 * r + 5) (by decide) (by omega),
    moved_left xo 1 (by decide) halves.odd 1 2047 r (2 * r + 6) (by decide) (by omega)]
  simp only [best, side, add_zero, max_assoc]

/-- The kernel's seven taps at an odd place. -/
theorem odd_taps (h1 h2 h3 : EReal) (r : ℕ) (hr : r < 2048) :
    max (max
        (max ((if h : r < 1 then Ideal.ofBits .f32 4286578688#32 else xe (ix2 0 ⟨r - 1, by omega⟩)) + h3)
          ((if h : r < 1 then Ideal.ofBits .f32 4286578688#32 else xo (ix2 0 ⟨r - 1, by omega⟩)) + h2))
        (max (xe (ix2 0 ⟨r, hr⟩) + h1) (xo (ix2 0 ⟨r, hr⟩))))
      (max ((if h : r < 2047 then xe (ix2 0 ⟨1 + r, by omega⟩) else Ideal.ofBits .f32 4286578688#32) + h1)
        (max ((if h : r < 2047 then xo (ix2 0 ⟨1 + r, by omega⟩) else Ideal.ofBits .f32 4286578688#32) + h2)
          ((if h : r < 2046 then xe (ix2 0 ⟨2 + r, by omega⟩) else Ideal.ofBits .f32 4286578688#32) + h3)))
      = best (entry g) (side h1 h2 h3) (2 * r + 1) := by
  rw [moved_right xe 0 (by decide) halves.even 1 r (2 * r + 1 + 0) hr (by omega) (by decide),
    moved_right xo 1 (by decide) halves.odd 1 r (2 * r + 1 + 1) hr (by omega) (by decide),
    unmoved xe 0 (by decide) halves.even r (2 * r + 1 + 2) hr (by omega),
    unmoved xo 1 (by decide) halves.odd r (2 * r + 1 + 3) hr (by omega),
    moved_left xe 0 (by decide) halves.even 1 2047 r (2 * r + 1 + 4) (by decide) (by omega),
    moved_left xo 1 (by decide) halves.odd 1 2047 r (2 * r + 1 + 5) (by decide) (by omega),
    moved_left xe 0 (by decide) halves.even 2 2046 r (2 * r + 1 + 6) (by decide) (by omega)]
  simp only [best, side, add_zero, max_assoc]

/-- The first row's even places. -/
theorem pay9_apply (s : Vec Ideal S1x1 .f32) (r : ℕ) (hr : r < 2048) :
    k0_pay9 s xe xo (ix2 0 ⟨r, hr⟩) = best (entry g) (side (k0_pay5 s) (k0_pay6 s) (k0_pay7 s)) (2 * r) := by
  pointwise [k0_pay9, k0_pay2, k0_pay3, k0_pay8]
  exact even_taps halves _ _ _ r hr

/-- The first row's odd places. -/
theorem pay11_apply (h1 h2 h3 : Ideal .f32) (r : ℕ) (hr : r < 2048) :
    k0_pay11 xe xo h1 h2 h3 k0_pay8 k0_pay10 (ix2 0 ⟨r, hr⟩) = best (entry g) (side h1 h2 h3) (2 * r + 1) := by
  pointwise [k0_pay11, k0_pay10, k0_pay8]
  exact odd_taps halves _ _ _ r hr

/-- The odd places of both rows. -/
theorem pay21_apply (od0 : FVec Ideal S1x2048 .f32) (h1 h2 h3 : Ideal .f32) (q : ℕ) (hq : q < 4096) :
    k0_pay21 od0 xe xo h1 h2 h3 k0_pay18 (ix2 0 ⟨q, hq⟩)
      = if h : q < 2048 then od0 (ix2 0 ⟨q, h⟩) else best (entry g) (side h1 h2 h3) (2 * (q - 2048) + 1) := by
  pointwise [k0_pay21, k0_pay20, k0_pay18]
  by_cases h : q < 2048
  · rw [dif_pos h, dif_pos h]
  · rw [dif_neg h, dif_neg h]
    exact odd_taps halves _ _ _ (q - 2048) (by omega)

/-- The even places of both rows, rotated. -/
theorem pay22_apply (w : BitVec 32) (ev0 : FVec Ideal S1x2048 .f32) (s : Ideal .f32) (q : Fin 4096) (m : ℕ)
    (hm : (q.val + 4096 - (Scalar.subi 4096#32 (Scalar.muli 8#32 w)).toNat % 4096) % 4096 = m) :
    k0_pay22 w ev0 (k0_pay12 xe) (k0_pay13 xo) (k0_pay15 s) (k0_pay16 s) (k0_pay17 s) k0_pay18 (k0_pay19 s xe xo)
        k0_pay20 (ix2 0 q)
      = if h : m < 2048 then ev0 (ix2 0 ⟨m, h⟩)
        else best (entry g) (side (k0_pay15 s) (k0_pay16 s) (k0_pay17 s)) (2 * (m - 2048)) := by
  have hlt : m < 4096 := hm ▸ Nat.mod_lt _ (by decide)
  pointwise [k0_pay22, k0_pay20, k0_pay18, k0_pay19, k0_pay12, k0_pay13]
  subst hm
  by_cases h : (q.val + 4096 - (Scalar.subi 4096#32 (Scalar.muli 8#32 w)).toNat % 4096) % 4096 < 2048
  · rw [dif_pos h, dif_pos h]
  · rw [dif_neg h, dif_neg h]
    exact even_taps halves _ _ _ _ (by omega)

end

/-! ## The weights -/

theorem row0_weights (s : Vec Ideal S1x1 .f32) (hs : s (ix2 0 0) ≠ 0) (j : ℕ) (hj : j < 7) :
    side (k0_pay5 s) (k0_pay6 s) (k0_pay7 s) j = weight (s (ix2 0 0)) j := by
  rw [← side_eq_weight hs j hj, ← word_neg_one, ← word_neg_four, ← word_neg_nine, ← word_quarter]
  pointwise [k0_pay5, k0_pay6, k0_pay7, k0_pay4]

theorem row1_weights (s : Ideal .f32) (hs : s ≠ 0) (j : ℕ) (hj : j < 7) :
    side (k0_pay15 s) (k0_pay16 s) (k0_pay17 s) j = weight s j := by
  rw [← side_eq_weight hs j hj, ← word_neg_one, ← word_neg_four, ← word_neg_nine, ← word_quarter]
  rfl

/-! ## A grid point's blocks -/

/-- What a grid point's two blocks are: the first two rows of an array in halves, and their scales, none zero. -/
structure Blocks (g : ℕ → Fin 4096 → EReal) (s : ℕ → EReal) (x : Vec Ideal S4x2048 .f32) (t : Vec Ideal S1x64 .f32) :
    Prop where
  row0 : Halves (g 0) (even0 x) (odd0 x)
  row1 : Halves (g 1) (even1 x) (odd1 x)
  scale0 : Hand.scale0 t (ix2 0 0) = s 0
  scale1 : Hand.scale1 t = s 1
  nonzero0 : s 0 ≠ 0
  nonzero1 : s 1 ≠ 0

/-- Where the rotation of grid point `i` reads. -/
theorem rotated (i : grid0.Coords) (q : Fin 4096) :
    (q.val + 4096 - (Scalar.subi 4096#32 (Scalar.muli 8#32 (BitVec.ofNat 32 (i 0).val))).toNat % 4096) % 4096
      = (q.val + 8 * (i 0).val) % 4096 := by
  have hi : (i 0).val < 2 := (i 0).isLt
  obtain h | h : (i 0).val = 0 ∨ (i 0).val = 1 := by omega
  · rw [h, show (Scalar.subi 4096#32 (Scalar.muli 8#32 (BitVec.ofNat 32 0))).toNat = 4096 by decide]
    omega
  · rw [h, show (Scalar.subi 4096#32 (Scalar.muli 8#32 (BitVec.ofNat 32 1))).toNat = 4088 by decide]
    omega

section
variable {g : ℕ → Fin 4096 → EReal} {s : ℕ → EReal} {x : Vec Ideal S4x2048 .f32} {t : Vec Ideal S1x64 .f32}
  (blocks : Blocks g s x t)
include blocks

/-- The taps of row 0 with the kernel's weights are the flat array's first places. -/
theorem best_row0 (p : ℕ) (hp : p < 4096) :
    best (entry (g 0)) (side (k0_pay5 (Hand.scale0 t)) (k0_pay6 (Hand.scale0 t)) (k0_pay7 (Hand.scale0 t))) p
      = flat g s p := by
  unfold flat
  rw [show p / 4096 = 0 by omega, show p % 4096 = p by omega, ← blocks.scale0]
  exact best_congr _ (row0_weights _ (by rw [blocks.scale0]; exact blocks.nonzero0)) _

/-- The taps of row 1 are the places after them. -/
theorem best_row1 (p k : ℕ) (hp : 4096 ≤ p) (h8 : p < 8192) (hk : k + 4096 = p) :
    best (entry (g 1)) (side (k0_pay15 (Hand.scale1 t)) (k0_pay16 (Hand.scale1 t)) (k0_pay17 (Hand.scale1 t))) k
      = flat g s p := by
  unfold flat
  rw [show p / 4096 = 1 by omega, show p % 4096 = k by omega, ← blocks.scale1]
  exact best_congr _ (row1_weights _ (by rw [blocks.scale1]; exact blocks.nonzero1)) _

theorem evens_apply (i : grid0.Coords) (q : Fin 4096) :
    evens i x t (ix2 0 q) = flat g s (2 * ((q.val + 8 * (i 0).val) % 4096)) := by
  unfold evens
  refine (pay22_apply blocks.row1 _ _ _ q _ (rotated i q)).trans ?_
  by_cases h : (q.val + 8 * (i 0).val) % 4096 < 2048
  · rw [dif_pos h, pay9_apply blocks.row0]
    exact best_row0 blocks _ (by omega)
  · rw [dif_neg h]
    exact best_row1 blocks _ _ (by omega) (by omega) (by omega)

theorem oddsFlat_apply (q : ℕ) (hq : q < 4096) : oddsFlat x t (ix2 0 ⟨q, hq⟩) = flat g s (2 * q + 1) := by
  unfold oddsFlat
  have halves0 : Halves (g 0) (k0_pay2 (even0 x)) (k0_pay3 (odd0 x)) := by
    unfold k0_pay2 k0_pay3
    rw [shapeCast_id, shapeCast_id]
    exact blocks.row0
  have halves1 : Halves (g 1) (k0_pay12 (even1 x)) (k0_pay13 (odd1 x)) := by
    unfold k0_pay12 k0_pay13
    rw [shapeCast_id, shapeCast_id]
    exact blocks.row1
  refine (pay21_apply halves1 _ _ _ _ q hq).trans ?_
  by_cases h : q < 2048
  · rw [dif_pos h, pay11_apply halves0]
    exact best_row0 blocks _ (by omega)
  · rw [dif_neg h]
    exact best_row1 blocks _ _ (by omega) (by omega) (by omega)

theorem odds_apply (i : grid0.Coords) (q : Fin 4096) :
    odds i x t (ix2 0 q) = flat g s (2 * ((q.val + 8 * (i 0).val) % 4096) + 1) := by
  unfold odds
  pointwise [k0_pay23]
  rw [oddsFlat_apply blocks, rotated i q]

/-- Place `n` of grid point `i` is the flat array's place `n + 16·i`. -/
theorem place_apply (i : grid0.Coords) (n p : ℕ) (hp : n + 16 * (i 0).val = p) (h8 : p < 8192) :
    place i x t n = flat g s p := by
  have hi : (i 0).val < 2 := (i 0).isLt
  unfold place
  by_cases h : n % 2 = 0
  · rw [if_pos h, evens_apply blocks]
    refine congrArg (flat g s) ?_
    show 2 * ((n / 2 % 4096 + 8 * (i 0).val) % 4096) = p
    omega
  · rw [if_neg h, odds_apply blocks]
    refine congrArg (flat g s) ?_
    show 2 * ((n / 2 % 4096 + 8 * (i 0).val) % 4096) + 1 = p
    omega

end

end Cert.KernelIdeal.Hand

end
-- ==== Proof.Array.lean ====
/- What the kernel leaves in the result array over the extended reals: the blocks of a grid point are the first two
   rows of the array in halves and the scales; the two points together fill the result with the flat array's places
   `b + c + 2·i`. -/
module

public import proofs.«01_k».proof.Proof.Taps
public import proofs.«01_k».proof.Proof.Region
public import Idealize.ShloMosaic.Lib.StableHlo.ReadAt
public import Idealize.ShloMosaic.Lib.Pipeline.ValueKit.Point

@[expose] public section

noncomputable section

namespace Cert.KernelIdeal.Hand

open Cert.KernelIdeal Cert.KernelIdeal.Gen
open Idealize.ShloMosaic Idealize.ShloMosaic.TcCoe Idealize.SL.Sem
open Cert.Dilation

variable (m : (ℓ : Loc nD τ sig) → Buf (Elt Ideal) ℓ)

/-- Row `k` of the launch array's first batch. -/
def rowOf (c : Dev nD) (k : ℕ) (q : Fin 4096) : EReal :=
  (m ((c.tc : Thread nD τ).loc main_arg0) : FVec Ideal S32x64x4096 .f32) (ix3 0 (Fin.ofNat 64 k) q)

/-- The scale of channel `k`. -/
def scaleOf (c : Dev nD) (k : ℕ) : EReal :=
  (m ((c.tc : Thread nD τ).loc main_arg1) : FVec Ideal S64 .f32) (ix1 (Fin.ofNat 64 k))

/-! ## The kernel's operands -/

/-- The four half rows the kernel is given: the even entries of rows 0 and 1, then the odd ones. -/
theorem halves_apply (c : Dev nD) (k : Fin 4) (q : Fin 2048) :
    (V m c main_v4 : FVec Ideal S4x2048 .f32) (ix2 k q) = rowOf m c (k.val % 2) ⟨2 * q.val + k.val / 2, by omega⟩ := by
  unfold V
  after_reads_at
  unfold rowOf
  have place : ∀ {a a' : Fin 64} {b b' : Fin 4096}, a = a' → b = b' →
      (m (c, Proc.tc.devRef main_arg0) : FVec Ideal S32x64x4096 .f32) (ix3 0 a b)
        = (m (c, Proc.tc.devRef main_arg0) : FVec Ideal S32x64x4096 .f32) (ix3 0 a' b') := by
    rintro _ _ _ _ rfl rfl
    rfl
  by_cases h : k.val < 2
  · rw [dif_pos h]
    exact place (Fin.ext (by show k.val = k.val % 2 % 64; omega)) (Fin.ext (by show 2 * q.val = 2 * q.val + k.val / 2; omega))
  · rw [dif_neg h]
    exact place (Fin.ext (by show k.val - 2 = k.val % 2 % 64; omega))
      (Fin.ext (by show 1 + 2 * q.val = 2 * q.val + k.val / 2; omega))

theorem scales_apply (c : Dev nD) (k : Fin 64) :
    (V m c main_v5 : FVec Ideal S1x64 .f32) (ix2 0 k) = scaleOf m c k.val := by
  unfold V
  after_reads_at
  unfold scaleOf
  rw [show Fin.ofNat 64 k.val = k from Fin.ext (Nat.mod_eq_of_lt k.isLt)]

/-- Both windows take their arrays whole. -/
theorem index_x (t : Fin cfg0.N) (a : Fin 2) : win0_0.index t a = 0 := by
  obtain rfl | rfl : t = t0_0 ∨ t = t0_1 := fin_N0 t
  · fin_cases a <;> rfl
  · fin_cases a <;> rfl

theorem index_t (t : Fin cfg0.N) (a : Fin 2) : win0_1.index t a = 0 := by
  obtain rfl | rfl : t = t0_0 ∨ t = t0_1 := fin_N0 t
  · fin_cases a <;> rfl
  · fin_cases a <;> rfl

theorem block_x (c : Dev nD) (t : Fin cfg0.N) (k : Fin 4) (q : Fin 2048) :
    (iblk m c 0 t : FVec Ideal S4x2048 .f32) (ix2 k q) = (V m c main_v4 : FVec Ideal S4x2048 .f32) (ix2 k q) := by
  blk_ext [iblk, index_x]

theorem block_t (c : Dev nD) (t : Fin cfg0.N) (k : Fin 64) :
    (iblk m c 1 t : FVec Ideal S1x64 .f32) (ix2 0 k) = (V m c main_v5 : FVec Ideal S1x64 .f32) (ix2 0 k) := by
  blk_ext [iblk, index_t]

theorem blocks (c : Dev nD) (t : Fin cfg0.N) (h0 : scaleOf m c 0 ≠ 0) (h1 : scaleOf m c 1 ≠ 0) :
    Blocks (rowOf m c) (scaleOf m c) (iblk m c 0 t) (iblk m c 1 t) where
  row0 := ⟨fun r h => by
      pointwise [even0]
      exact (block_x m c t 0 ⟨r, h⟩).trans (halves_apply m c 0 ⟨r, h⟩),
    fun r h => by
      pointwise [odd0]
      exact (block_x m c t 2 ⟨r, h⟩).trans (halves_apply m c 2 ⟨r, h⟩)⟩
  row1 := ⟨fun r h => by
      pointwise [even1]
      exact (block_x m c t 1 ⟨r, h⟩).trans (halves_apply m c 1 ⟨r, h⟩),
    fun r h => by
      pointwise [odd1]
      exact (block_x m c t 3 ⟨r, h⟩).trans (halves_apply m c 3 ⟨r, h⟩)⟩
  scale0 := by
    pointwise [Hand.scale0]
    exact (block_t m c t 0).trans (scales_apply m c 0)
  scale1 := by
    pointwise [Hand.scale1, k0_pay1]
    exact (block_t m c t 1).trans (scales_apply m c 1)
  nonzero0 := h0
  nonzero1 := h1

/-! ## The result array -/

/-- What a grid point leaves in an entry of its own rows. -/
theorem step_own (c : Dev nD) (t : Fin cfg0.N) (h0 : scaleOf m c 0 ≠ 0) (h1 : scaleOf m c 1 ≠ 0)
    (g : Vec Ideal S32x64x2048 .f32) (idx : S32x64x2048.Idx)
    (hidx : 16 * (grid0.coords t 0).val ≤ (idx 0).val ∧ (idx 0).val < 16 * (grid0.coords t 0).val + 16) :
    stepOut (grid0.coords t) (iblk m c 0 t) (iblk m c 1 t) g idx
      = flat (rowOf m c) (scaleOf m c) ((idx 0).val + (idx 1).val + 2 * (idx 2).val) := by
  have b0 : (idx 0).val < 32 := (idx 0).isLt
  have b1 : (idx 1).val < 64 := (idx 1).isLt
  have b2 : (idx 2).val < 2048 := (idx 2).isLt
  unfold stepOut
  rw [if_pos hidx]
  exact place_apply (blocks m c t h0 h1) _ _ _ (by omega) (by omega)

/-- The result array after the run. -/
theorem final_apply (c : Dev nD) (h0 : scaleOf m c 0 ≠ 0) (h1 : scaleOf m c 1 ≠ 0) (idx : S32x64x2048.Idx) :
    (final m c : Vec Ideal S32x64x2048 .f32) idx
      = flat (rowOf m c) (scaleOf m c) ((idx 0).val + (idx 1).val + 2 * (idx 2).val) := by
  have b0 : (idx 0).val < 32 := (idx 0).isLt
  have at0 : (grid0.coords t0_0 0).val = 0 := by decide
  have at1 : (grid0.coords t0_1 0).val = 1 := by decide
  have last : final m c = stepOut (grid0.coords t0_1) (iblk m c 0 t0_1) (iblk m c 1 t0_1) (outAt m c 1) :=
    outAt_succ m c t0_1
  have first : outAt m c 1 = stepOut (grid0.coords t0_0) (iblk m c 0 t0_0) (iblk m c 1 t0_0) (outAt m c 0) :=
    outAt_succ m c t0_0
  rw [last]
  by_cases h : 16 ≤ (idx 0).val
  · exact step_own m c t0_1 h0 h1 _ idx (by rw [at1]; omega)
  · rw [first]
    refine (if_neg (by rw [at1]; omega)).trans ?_
    exact step_own m c t0_0 h0 h1 _ idx (by rw [at0]; omega)

end Cert.KernelIdeal.Hand

end
-- ==== Proof.Reference.lean ====
/- What the reference computes, entry by entry, over the extended reals. Its taps run over the whole array; its
   result then reads the dilated rows, written one after the other, at the place `b + c + 2·i`, which only ever
   lies in the first two rows. -/
module

public import proofs.«01_k».proof.Proof.Gen.ReferenceIdeal.Run
public import proofs.«01_k».proof.Proof.Dilation
public import Idealize.ShloMosaic.Lib.Pointwise
public import Idealize.ShloMosaic.Lib.IdealHost
public import Idealize.ShloMosaic.Lib.Tactic.WordOmega

@[expose] public section

noncomputable section

namespace Cert.ReferenceIdeal.Hand

open Cert.ReferenceIdeal Cert.ReferenceIdeal.Gen
open Idealize.ShloMosaic Idealize.ShloMosaic.TcCoe Idealize.SL.Sem

/-! ## The reference's arrays, by name -/

/-- The six numbers `j / 6`. -/
def sixths : FVec Ideal S6 .f32 :=
  Host.divf (sitofp .f32 (iotaInDim S6 32 0)) (broadcastInDim S6 ![] bcast_S_S6 (constant S_ .f32 0x40C00000#32))

/-- The seven distances to the centre, from `−3` to `3`. -/
def distances : FVec Ideal S7 .f32 :=
  concatenate S7 0 [⟨S6, addf (mulf (broadcastInDim S6 ![0] bcast_S1_S6_0
      (shapeCast _ (sitofp .f32 (constantI S_ 32 4294967293#32)) shapeCasts_S_S1))
      (subf (broadcastInDim S6 ![] bcast_S_S6 (constant S_ .f32 0x3F800000#32)) sixths))
      (mulf (broadcastInDim S6 ![0] bcast_S1_S6_0 (shapeCast _ (sitofp .f32 (constantI S_ 32 3#32)) shapeCasts_S_S1))
      sixths)⟩,
    ⟨S1, broadcastInDim S1 ![] bcast_S_S1 (sitofp .f32 (constantI S_ 32 3#32))⟩] concatenates_S6_S1_S7_d0

/-- The weights of the taps, seven for every channel. -/
def weights (t : FVec Ideal S64 .f32) : FVec Ideal S64x7 .f32 :=
  Host.divf (broadcastInDim S64x7 ![0, 1] bcast_S1x7_S64x7_0_1 (broadcastInDim S1x7 ![1] bcast_S7_S1x7_1
      (Host.negf (mulf distances distances))))
    (broadcastInDim S64x7 ![0, 1] bcast_S64x1_S64x7_0_1
      (mulf (broadcastInDim S64x1 ![] bcast_S_S64x1 (constant S_ .f32 0x40800000#32))
        (broadcastInDim S64x1 ![0] bcast_S64_S64x1_0 t)))

/-- The array with three entries `−∞` in front of every row and behind it. -/
def padded (f : FVec Ideal S32x64x4096 .f32) : FVec Ideal S32x64x4102 .f32 :=
  pad S32x64x4102 ![0, 0, 3] ![0, 0, 3] ![0, 0, 0] f (id (constant S_ .f32 0xFF800000#32))
    pads_S32x64x4096_S32x64x4102_000_000_330 h_S_

/-- One tap: the padded array from place `j` on, plus the taps' weight number `j`. -/
def tap (j : ℕ) (hs : S32x64x4102.Slices ![0, 0, j] S32x64x4096) (hw : S64x7.Slices ![0, j] S64x1)
    (f : FVec Ideal S32x64x4096 .f32) (t : FVec Ideal S64 .f32) : FVec Ideal S32x64x4096 .f32 :=
  addf (extractStridedSlice S32x64x4096 ![0, 0, j] (padded f) hs)
    (broadcastInDim S32x64x4096 ![0, 1, 2] bcast_S1x64x1_S32x64x4096_0_1_2
      (broadcastInDim S1x64x1 ![1] bcast_S64_S1x64x1_1
        (shapeCast _ (extractStridedSlice S64x1 ![0, j] (weights t) hw) shapeCasts_S64x1_S64)))

/-- The dilated array: the largest of the seven taps. -/
def dilated (f : FVec Ideal S32x64x4096 .f32) (t : FVec Ideal S64 .f32) : FVec Ideal S32x64x4096 .f32 :=
  maximumf (maximumf (maximumf (maximumf (maximumf (maximumf
    (tap 0 slices_S32x64x4102_S32x64x4096_0_0_0 slices_S64x7_S64x1_0_0 f t)
    (tap 1 slices_S32x64x4102_S32x64x4096_0_0_1 slices_S64x7_S64x1_0_1 f t))
    (tap 2 slices_S32x64x4102_S32x64x4096_0_0_2 slices_S64x7_S64x1_0_2 f t))
    (tap 3 slices_S32x64x4102_S32x64x4096_0_0_3 slices_S64x7_S64x1_0_3 f t))
    (tap 4 slices_S32x64x4102_S32x64x4096_0_0_4 slices_S64x7_S64x1_0_4 f t))
    (tap 5 slices_S32x64x4102_S32x64x4096_0_0_5 slices_S64x7_S64x1_0_5 f t))
    (tap 6 slices_S32x64x4102_S32x64x4096_0_0_6 slices_S64x7_S64x1_0_6 f t)

/-- The places the result reads, `b + c + 2·i`. -/
def places : IVec S32x64x2048 32 :=
  addi (broadcastInDim S32x64x2048 ![0, 1, 2] bcast_S32x64x1_S32x64x2048_0_1_2
      (addi (broadcastInDim S32x64x1 ![0, 1, 2] bcast_S32x1x1_S32x64x1_0_1_2
          (broadcastInDim S32x1x1 ![0] bcast_S32_S32x1x1_0 (iotaInDim S32 32 0)))
        (broadcastInDim S32x64x1 ![0, 1, 2] bcast_S1x64x1_S32x64x1_0_1_2
          (broadcastInDim S1x64x1 ![1] bcast_S64_S1x64x1_1 (iotaInDim S64 32 0)))))
    (broadcastInDim S32x64x2048 ![0, 1, 2] bcast_S1x1x2048_S32x64x2048_0_1_2
      (muli (broadcastInDim S1x1x2048 ![2] bcast_S2048_S1x1x2048_2 (iotaInDim S2048 32 0))
        (broadcastInDim S1x1x2048 ![] bcast_S_S1x1x2048 (constantI S_ 32 2#32))))

/-- The places with a negative one counted from the end, and one axis more. -/
def starts : IVec S32x64x2048x1 32 :=
  broadcastInDim S32x64x2048x1 ![0, 1, 2] bcast_S32x64x2048_S32x64x2048x1_0_1_2
    (select (cmpi .slt places (broadcastInDim S32x64x2048 ![] bcast_S_S32x64x2048 (constantI S_ 32 0#32)))
      (addi places (broadcastInDim S32x64x2048 ![] bcast_S_S32x64x2048 (constantI S_ 32 8388608#32))) places)

/-- The reference's result, by the names above. -/
theorem result_eq (m : (ℓ : Loc nD τ sig) → Buf (Elt Ideal) ℓ) (c : Dev nD) :
    Value.res_out0 m c = Host.gather gather_S8388608_S32x64x2048x1_S32x64x2048_n_0_n_n_0_3_1
      (shapeCast _ (dilated (m ((c.tc : Thread nD τ).loc main_arg0)) (m ((c.tc : Thread nD τ).loc main_arg1)))
        shapeCasts_S32x64x4096_S8388608) starts := by
  show Value.res_main_v80 m c = _
  unfold Value.res_main_v80 dilated starts places
  unfold tap padded weights
  unfold distances sixths
  rfl

/-! ## The places -/

theorem places_toNat (b : Fin 32) (c : Fin 64) (i : Fin 2048) :
    (places (ix3 b c i)).toNat = b.val + c.val + 2 * i.val := by
  pointwise [places, IntOp.muli, IntOp.addi]
  simp only [BitVec.toNat_add, BitVec.toNat_mul, BitVec.toNat_ofNat]
  have hb := Nat.mod_eq_of_lt (show b.val < 2 ^ 32 by omega)
  have hc := Nat.mod_eq_of_lt (show c.val < 2 ^ 32 by omega)
  have hi := Nat.mod_eq_of_lt (show i.val < 2 ^ 32 by omega)
  rw [hb, hc, hi]
  omega

theorem starts_toNat (b : Fin 32) (c : Fin 64) (i : Fin 2048) :
    (starts (ix4 b c i 0)).toInt.toNat = b.val + c.val + 2 * i.val := by
  have h := places_toNat b c i
  pointwise [starts]
  generalize places (ix3 b c i) = w at h
  word_omega

/-- A gather of single numbers out of a flat array: each result entry is the array at its start. -/
theorem gather_single (x : FVec Ideal S8388608 .f32) (idx : IVec S32x64x2048x1 32) (b : Fin 32) (c : Fin 64)
    (i : Fin 2048) :
    Host.gather gather_S8388608_S32x64x2048x1_S32x64x2048_n_0_n_n_0_3_1 x idx (ix3 b c i)
      = x (ix1 ⟨min (idx (ix4 b c i 0)).toInt.toNat 8388607, by omega⟩) := by
  unfold Host.gather
  refine congrArg x ?_
  funext a
  obtain rfl : a = 0 := Subsingleton.elim _ _
  refine Fin.ext ?_
  show GatherDims.start _ (ix3 b c i) idx 0 + GatherDims.batchCoord _ (ix3 b c i) 0
    + GatherDims.offCoord _ (ix3 b c i) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ GatherDims.startIndexMap gather_S8388608_S32x64x2048x1_S32x64x2048_n_0_n_n_0_3_1
    from List.mem_singleton.mpr rfl)]
  have at_start : GatherDims.siIdx gather_S8388608_S32x64x2048x1_S32x64x2048_n_0_n_n_0_3_1 (ix3 b c i)
      ⟨List.idxOf (0 : Fin 1) [0], List.idxOf_lt_length_iff.2 (List.mem_singleton.mpr rfl)⟩ = ix4 b c i 0 := by
    funext d
    refine Fin.ext ?_
    match d with
    | ⟨0, _⟩ => rfl
    | ⟨1, _⟩ => rfl
    | ⟨2, _⟩ => rfl
    | ⟨3, _⟩ => rfl
  exact congrArg (fun k => min (idx k).toInt.toNat 8388607) at_start

/-! ## The taps -/

theorem padded_apply (f : FVec Ideal S32x64x4096 .f32) (b : Fin 32) (c : Fin 64) (p : Fin 4102) :
    padded f (ix3 b c p) = Dilation.entry (fun q => f (ix3 b c q)) p.val := by
  pointwise [padded]
  by_cases h : 3 ≤ p.val ∧ p.val < 4099
  · rw [dif_pos (by omega), Dilation.entry_inside _ h]
  · rw [dif_neg (by omega), Dilation.entry_outside _ h]
    exact Dilation.word_neg_inf

theorem distances_apply (j : Fin 7) : distances (ix1 j) = (((j.val : ℝ) - 3 : ℝ) : EReal) := by
  have three : FloatOps.sitofp (F := Ideal) .f32 3#32 = ((3 : ℝ) : EReal) := by
    show (((3#32 : BitVec 32).toInt : ℝ) : EReal) = _
    rw [show (3#32 : BitVec 32).toInt = 3 by decide]
    norm_num
  have neg_three : FloatOps.sitofp (F := Ideal) .f32 4294967293#32 = ((-3 : ℝ) : EReal) := by
    show (((4294967293#32 : BitVec 32).toInt : ℝ) : EReal) = _
    rw [show (4294967293#32 : BitVec 32).toInt = -3 by decide]
    norm_num
  have count : FloatOps.sitofp (F := Ideal) .f32 (BitVec.ofNat 32 j.val) = ((j.val : ℝ) : EReal) := by
    show (((BitVec.ofNat 32 j.val).toInt : ℝ) : EReal) = _
    rw [show (BitVec.ofNat 32 j.val).toInt = (j.val : ℤ) by word_omega]
    norm_num
  pointwise [distances, sixths]
  rw [three, neg_three, count, Dilation.word_six, Ideal.div_coe (by norm_num)]
  by_cases h : j.val < 6
  · rw [dif_pos h, show (1 : EReal) = ((1 : ℝ) : EReal) from rfl]
    simp only [← EReal.coe_mul, ← EReal.coe_sub, ← EReal.coe_add]
    refine congrArg (fun x : ℝ => (x : EReal)) ?_
    ring
  · rw [dif_neg h, show j.val = 6 by omega]
    norm_num

theorem weights_apply (t : FVec Ideal S64 .f32) (c : Fin 64) (j : Fin 7) :
    weights t (ix2 c j) = Dilation.weight (t (ix1 c)) j.val := by
  pointwise [weights]
  rw [distances_apply, Dilation.word_four, ← EReal.coe_mul, ← EReal.coe_neg, ← sq]
  rfl

theorem tap_apply (j : ℕ) (hj : j < 7) (hs : S32x64x4102.Slices ![0, 0, j] S32x64x4096) (hw : S64x7.Slices ![0, j] S64x1)
    (f : FVec Ideal S32x64x4096 .f32) (t : FVec Ideal S64 .f32) (b : Fin 32) (c : Fin 64) (q : Fin 4096) :
    tap j hs hw f t (ix3 b c q)
      = Dilation.entry (fun q => f (ix3 b c q)) (q.val + j) + Dilation.weight (t (ix1 c)) j := by
  pointwise [tap]
  rw [padded_apply, weights_apply, Nat.add_comm q.val j]

theorem dilated_apply (f : FVec Ideal S32x64x4096 .f32) (t : FVec Ideal S64 .f32) (b : Fin 32) (c : Fin 64)
    (q : Fin 4096) :
    dilated f t (ix3 b c q)
      = Dilation.best (Dilation.entry fun q => f (ix3 b c q)) (Dilation.weight (t (ix1 c))) q.val := by
  pointwise [dilated]
  rw [tap_apply 0 (by decide), tap_apply 1 (by decide), tap_apply 2 (by decide), tap_apply 3 (by decide),
    tap_apply 4 (by decide), tap_apply 5 (by decide), tap_apply 6 (by decide)]
  rfl

/-! ## The result -/

/-- The dilated rows of an array's first batch, written one after the other: what lies at place `p`, in the first
    two rows. -/
theorem flat_apply (f : FVec Ideal S32x64x4096 .f32) (t : FVec Ideal S64 .f32) (p : ℕ) (hp : p < 8192)
    (h8 : p < 8388608) :
    shapeCast S8388608 (dilated f t) shapeCasts_S32x64x4096_S8388608 (ix1 ⟨p, h8⟩)
      = Dilation.flat (fun c q => f (ix3 0 (Fin.ofNat 64 c) q)) (fun c => t (ix1 (Fin.ofNat 64 c))) p := by
  have e : Shape.reshapeEquiv shapeCasts_S32x64x4096_S8388608 (ix1 ⟨p, h8⟩)
      = ix3 (n0 := 32) (n1 := 64) (n2 := 4096) 0 (Fin.ofNat 64 (p / 4096)) ⟨p % 4096, Nat.mod_lt _ (by decide)⟩ := by
    refine Shape.reshapeEquiv_eq_of_rowMajor _ ?_
    rw [rowMajor_val1, rowMajor_val3 _ _ _ rfl rfl]
    show 0 * _ + (p / 4096 % 64) * 4096 + p % 4096 = p
    omega
  show dilated f t (Shape.reshapeEquiv shapeCasts_S32x64x4096_S8388608 (ix1 ⟨p, h8⟩)) = _
  rw [e, dilated_apply]
  rfl

/-- The reference's result at `(b, c, i)`. -/
theorem result_apply (m : (ℓ : Loc nD τ sig) → Buf (Elt Ideal) ℓ) (d : Dev nD) (b : Fin 32) (c : Fin 64)
    (i : Fin 2048) :
    (Value.res_out0 m d : FVec Ideal S32x64x2048 .f32) (ix3 b c i)
      = Dilation.flat (fun c q => m ((d.tc : Thread nD τ).loc main_arg0) (ix3 0 (Fin.ofNat 64 c) q))
          (fun c => m ((d.tc : Thread nD τ).loc main_arg1) (ix1 (Fin.ofNat 64 c))) (b.val + c.val + 2 * i.val) := by
  rw [result_eq]
  refine (gather_single _ _ b c i).trans ?_
  have at_place : (⟨min (starts (ix4 b c i 0)).toInt.toNat 8388607, by omega⟩ : Fin 8388608)
      = ⟨b.val + c.val + 2 * i.val, by omega⟩ := by
    refine Fin.ext ?_
    show min (starts (ix4 b c i 0)).toInt.toNat 8388607 = _
    rw [starts_toNat]
    show min (b.val + c.val + 2 * i.val) 8388607 = b.val + c.val + 2 * i.val
    omega
  rw [at_place]
  exact flat_apply _ _ _ (by omega) (by omega)

end Cert.ReferenceIdeal.Hand

end
-- ==== Proof.Equation.lean ====
/- The two results are equal: both are the flat array's places `b + c + 2·i`, wherever the scales of the two channels
   read are not zero. -/
module

public import proofs.«01_k».proof.Defs
public import proofs.«01_k».proof.Proof.Array
public import proofs.«01_k».proof.Proof.Reference
public import proofs.«01_k».proof.Proof.Frames

@[expose] public section

noncomputable section

namespace Cert.Equation

open Idealize.ShloMosaic Idealize.ShloMosaic.TcCoe Idealize.SL.Sem

/-- The precondition, read at one of the two channels. -/
theorem scale_nonzero [Cert.Pre_read_scales_nonzero.Facts] (f : FVec Ideal ⟨3, ![32, 64, 4096]⟩ .f32)
    (t : FVec Ideal ⟨1, ![64]⟩ .f32) (h : Cert.Pre_read_scales_nonzero.fn (F := Ideal) f t = fun _ => 1#1) (k : Fin 2) :
    t (ix1 ⟨k.val, by omega⟩) ≠ 0 := by
  intro hzero
  have hk := congrFun h (ix1 k)
  unfold Cert.Pre_read_scales_nonzero.fn at hk
  pointwise at hk
  rw [hzero] at hk
  simp at hk

/-- The kernel's result array is the reference's. -/
theorem results_equal
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : Cert.KernelIdeal.Hand.scaleOf m c 0 ≠ 0) (h1 : Cert.KernelIdeal.Hand.scaleOf m c 1 ≠ 0)
    (same0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (same1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (Cert.ReferenceIdeal.Value.res_out0 m' c : FVec Ideal ⟨3, ![32, 64, 2048]⟩ .f32)
      = (Cert.KernelIdeal.Hand.final m c : FVec Ideal ⟨3, ![32, 64, 2048]⟩ .f32) := by
  funext j
  have rows : (fun k q => (m' ((c.tc : Thread Cert.ReferenceIdeal.nD Cert.ReferenceIdeal.τ).loc Cert.ReferenceIdeal.main_arg0)
      : FVec Ideal ⟨3, ![32, 64, 4096]⟩ .f32) (ix3 0 (Fin.ofNat 64 k) q)) = Cert.KernelIdeal.Hand.rowOf m c := by
    funext k q
    exact congrFun same0 (ix3 0 (Fin.ofNat 64 k) q)
  have scales : (fun k => (m' ((c.tc : Thread Cert.ReferenceIdeal.nD Cert.ReferenceIdeal.τ).loc Cert.ReferenceIdeal.main_arg1)
      : FVec Ideal ⟨1, ![64]⟩ .f32) (ix1 (Fin.ofNat 64 k))) = Cert.KernelIdeal.Hand.scaleOf m c := by
    funext k
    exact congrFun same1 (ix1 (Fin.ofNat 64 k))
  have at_j : j = ix3 (n0 := 32) (n1 := 64) (n2 := 2048) (j 0) (j 1) (j 2) := by
    funext a
    match a with
    | ⟨0, _⟩ => rfl
    | ⟨1, _⟩ => rfl
    | ⟨2, _⟩ => rfl
  refine Eq.trans ?_ (Cert.KernelIdeal.Hand.final_apply m c h0 h1 j).symm
  rw [← rows, ← scales]
  refine (congrArg (Cert.ReferenceIdeal.Value.res_out0 m' c) at_j).trans ?_
  exact Cert.ReferenceIdeal.Hand.result_apply m' c (j 0) (j 1) (j 2)

/-- The value claim. -/
theorem algebraic : Cert.algebraic_KernelIdeal_ReferenceIdeal_pre_read_scales_nonzero
    (hKernelIdeal := Cert.KernelIdeal.Gen.facts) (hReferenceIdeal := Cert.ReferenceIdeal.Gen.facts)
    (hPre_read_scales_nonzero := Cert.Frames.pre_facts) := by
  intro m g m' g' pre same
  have := Cert.Frames.pre_facts
  refine ⟨fun c => Cert.KernelIdeal.Hand.final m c, ?_, ?_⟩
  · exact (θ_run _ _ _).mono (fun _ h => h.1) (Cert.KernelIdeal.Hand.value m g)
  · refine (θ_run _ _ _).mono (fun _ h c => ⟨(h c).1.trans ?_, (h c).2⟩) (Cert.ReferenceIdeal.Value.run m' g')
    exact results_equal m m' c (scale_nonzero (h := pre c) (k := 0)) (scale_nonzero (h := pre c) (k := 1))
      (same c).1 (same c).2

end Cert.Equation

end
-- ==== Proof.lean ====
module

public import proofs.«01_k».proof.Defs
public import proofs.«01_k».proof.Proof.Frames
public import proofs.«01_k».proof.Proof.Equation

@[expose] public section

noncomputable section

namespace Cert.Proof

/-- The claims, assembled. -/
theorem claim : Cert.Claim := ⟨Cert.Kernel.Gen.facts, Cert.KernelIdeal.Gen.facts, Cert.ReferenceIdeal.Gen.facts,
  Cert.Frames.pre_facts,
  Cert.Frames.kernel,
  Cert.Frames.kernelIdeal,
  fun m g _ => Cert.KernelIdeal.Hand.frame m g,
  Cert.Frames.referenceIdeal,
  fun m g _ => Cert.Frames.referenceIdeal m g trivial,
  trivial,
  Cert.Equation.algebraic⟩

end Cert.Proof

end
